-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_choices_untied [hPre_choices_untied : Cert.Pre_choices_untied.Facts] (m : (ℓ : Loc Cert.KernelIdeal.nD Cert.KernelIdeal.τ Cert.KernelIdeal.sig) → Buf (Elt Ideal) ℓ) : Prop :=
  ∀ c : Dev Cert.KernelIdeal.nD,
    (Cert.Pre_choices_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_choices_untied [hPre_choices_untied : Cert.Pre_choices_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_choices_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_choices_untied [hKernelIdeal : Cert.KernelIdeal.Facts] [hPre_choices_untied : Cert.Pre_choices_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_choices_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_choices_untied [hReferenceIdeal : Cert.ReferenceIdeal.Facts] [hPre_choices_untied : Cert.Pre_choices_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_choices_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_choices_untied [hKernelIdeal : Cert.KernelIdeal.Facts] [hReferenceIdeal : Cert.ReferenceIdeal.Facts] [hPre_choices_untied : Cert.Pre_choices_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_choices_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_choices_untied : Cert.Pre_choices_untied.Facts),
    quiescent_Kernel (hKernel := hKernel)
    ∧ quiescent_KernelIdeal (hKernelIdeal := hKernelIdeal)
    ∧ quiescent_KernelIdeal_pre_choices_untied (hKernelIdeal := hKernelIdeal) (hPre_choices_untied := hPre_choices_untied)
    ∧ quiescent_ReferenceIdeal (hReferenceIdeal := hReferenceIdeal)
    ∧ quiescent_ReferenceIdeal_pre_choices_untied (hReferenceIdeal := hReferenceIdeal) (hPre_choices_untied := hPre_choices_untied)
    ∧ preserves_Kernel_KernelIdeal
    ∧ algebraic_KernelIdeal_ReferenceIdeal_pre_choices_untied (hKernelIdeal := hKernelIdeal) (hReferenceIdeal := hReferenceIdeal) (hPre_choices_untied := hPre_choices_untied)
-- ==== Pre_choices_untied.lean ====
abbrev S1x2048x768 : Shape := ⟨3, ![1, 2048, 768]⟩
abbrev S768 : Shape := ⟨1, ![768]⟩
abbrev S8 : Shape := ⟨1, ![8]⟩
abbrev S768x8 : Shape := ⟨2, ![768, 8]⟩
abbrev S8x2x2048x768 : Shape := ⟨4, ![8, 2, 2048, 768]⟩
abbrev S8x2048x768 : Shape := ⟨3, ![8, 2048, 768]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x8 : Shape := ⟨3, ![1, 2048, 8]⟩
abbrev S1x2048x1x8 : Shape := ⟨4, ![1, 2048, 1, 8]⟩
abbrev S1x2048x8x1 : Shape := ⟨4, ![1, 2048, 8, 1]⟩
abbrev S1x2048x8x8 : Shape := ⟨4, ![1, 2048, 8, 8]⟩

class Facts : Prop where
  reducesTo_S1x2048x768_S1x2048_d2 : S1x2048x768.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x768_0_1_2 : S1x2048x1.BroadcastsInDim S1x2048x768 (![0, 1, 2] : Fin 3 → Fin S1x2048x768.rank)
  bcast_S_S1x2048x768 : S_.BroadcastsInDim S1x2048x768 (![] : Fin 0 → Fin S1x2048x768.rank)
  bcast_S768_S1x1x768_2 : S768.BroadcastsInDim S1x1x768 (![2] : Fin 1 → Fin S1x1x768.rank)
  bcast_S1x1x768_S1x2048x768_0_1_2 : S1x1x768.BroadcastsInDim S1x2048x768 (![0, 1, 2] : Fin 3 → Fin S1x2048x768.rank)
  bcast_S1x2048x8_S1x2048x1x8_0_1_3 : S1x2048x8.BroadcastsInDim S1x2048x1x8 (![0, 1, 3] : Fin 3 → Fin S1x2048x1x8.rank)
  bcast_S1x2048x8_S1x2048x8x1_0_1_2 : S1x2048x8.BroadcastsInDim S1x2048x8x1 (![0, 1, 2] : Fin 3 → Fin S1x2048x8x1.rank)
  bcast_S1x2048x1x8_S1x2048x8x8_0_1_2_3 : S1x2048x1x8.BroadcastsInDim S1x2048x8x8 (![0, 1, 2, 3] : Fin 4 → Fin S1x2048x8x8.rank)
  bcast_S1x2048x8x1_S1x2048x8x8_0_1_2_3 : S1x2048x8x1.BroadcastsInDim S1x2048x8x8 (![0, 1, 2, 3] : Fin 4 → Fin S1x2048x8x8.rank)
  natLt_1_32 : 1 < 32
  reducesTo_S1x2048x8x8_S1x2048x8_d3 : S1x2048x8x8.ReducesTo [3] S1x2048x8
  bcast_S_S1x2048x8 : S_.BroadcastsInDim S1x2048x8 (![] : Fin 0 → Fin S1x2048x8.rank)
  reducesTo_S1x2048x8_S1x2048_d2 : S1x2048x8.ReducesTo [2] S1x2048
  bcast_S_S1x2048 : S_.BroadcastsInDim S1x2048 (![] : Fin 0 → Fin S1x2048.rank)
  reducesTo_S1x2048_S_d0_1 : S1x2048.ReducesTo [0, 1] S_
  dot_S1x2048x768_S768x8_S1x2048x8_2_0_01_1_n_n_wf : DotDims.WF S1x2048x768 S768x8 S1x2048x8 [2] [0] [0, 1] [1] [] []

variable [Facts]

def dot_S1x2048x768_S768x8_S1x2048x8_2_0_01_1_n_n : DotDims S1x2048x768 S768x8 S1x2048x8 where
  lhsContracting := [2]
  rhsContracting := [0]
  lhsNonContracting := [0, 1]
  rhsNonContracting := [1]
  lhsBatch := []
  rhsBatch := []
  wf := dot_S1x2048x768_S768x8_S1x2048x8_2_0_01_1_n_n_wf
def fn_part2 {F : FTy → Type} [FloatOps F] (main_v36 : IVec S1x2048 1) : IVec S_ 1 :=
  let main_c_9 : IVec S_ 1 := constantI S_ 1 1#1
  let main_v37 : IVec S_ 1 := (fun x v => Host.reduce IntOp.andi x v reducesTo_S1x2048_S_d0_1 h_S_) main_v36 main_c_9
  main_v37

def fn_part1 {F : FTy → Type} [FloatOps F] (main_v18 : FVec F S1x2048x8x1 .f32) (main_v19 : FVec F S1x2048x8x8 .f32) : IVec S_ 1 :=
  let main_v20 : FVec F S1x2048x8x8 .f32 := broadcastInDim S1x2048x8x8 ![0, 1, 2, 3] bcast_S1x2048x8x1_S1x2048x8x8_0_1_2_3 main_v18
  let main_v21 : IVec S1x2048x8x8 1 := cmpf .ogt main_v19 main_v20
  let main_v22 : IVec S1x2048x8x8 32 := (extui 32 · natLt_1_32) main_v21
  let main_c : IVec S_ 32 := constantI S_ 32 0#32
  let main_v23 : IVec S1x2048x8 32 := (fun x v => Host.reduce IntOp.addi x v reducesTo_S1x2048x8x8_S1x2048x8_d3 h_S_) main_v22 main_c
  let main_c_3 : IVec S_ 32 := constantI S_ 32 0#32
  let main_v24 : IVec S1x2048x8 32 := broadcastInDim S1x2048x8 ![] bcast_S_S1x2048x8 main_c_3
  let main_v25 : IVec S1x2048x8 1 := cmpi .eq main_v23 main_v24
  let main_v26 : IVec S1x2048x8 32 := (extui 32 · natLt_1_32) main_v25
  let main_c_4 : IVec S_ 32 := constantI S_ 32 0#32
  let main_v27 : IVec S1x2048 32 := (fun x v => Host.reduce IntOp.addi x v reducesTo_S1x2048x8_S1x2048_d2 h_S_) main_v26 main_c_4
  let main_c_5 : IVec S_ 32 := constantI S_ 32 1#32
  let main_v28 : IVec S1x2048x8 32 := broadcastInDim S1x2048x8 ![] bcast_S_S1x2048x8 main_c_5
  let main_v29 : IVec S1x2048x8 1 := cmpi .eq main_v23 main_v28
  let main_v30 : IVec S1x2048x8 32 := (extui 32 · natLt_1_32) main_v29
  let main_c_6 : IVec S_ 32 := constantI S_ 32 0#32
  let main_v31 : IVec S1x2048 32 := (fun x v => Host.reduce IntOp.addi x v reducesTo_S1x2048x8_S1x2048_d2 h_S_) main_v30 main_c_6
  let main_c_7 : IVec S_ 32 := constantI S_ 32 1#32
  let main_v32 : IVec S1x2048 32 := broadcastInDim S1x2048 ![] bcast_S_S1x2048 main_c_7
  let main_v33 : IVec S1x2048 1 := cmpi .eq main_v27 main_v32
  let main_c_8 : IVec S_ 32 := constantI S_ 32 1#32
  let main_v34 : IVec S1x2048 32 := broadcastInDim S1x2048 ![] bcast_S_S1x2048 main_c_8
  let main_v35 : IVec S1x2048 1 := cmpi .eq main_v31 main_v34
  let main_v36 : IVec S1x2048 1 := andi main_v33 main_v35
  fn_part2 (F := F) main_v36

def fn {F : FTy → Type} [FloatOps F] (main_arg0 : FVec F S1x2048x768 .f32) (main_arg1 : FVec F S768 .f32) (main_arg2 : FVec F S8 .f32) (main_arg3 : FVec F S768x8 .f32) (main_arg4 : FVec F S8x2x2048x768 .f32) (main_arg5 : FVec F S8x2048x768 .f32) : IVec S_ 1 :=
  let main_v0 : FVec F S1x2048x768 .f32 := mulf main_arg0 main_arg0
  let main_cst : FVec F S_ .f32 := constant S_ .f32 0x00000000#32
  let main_v1 : FVec F S1x2048 .f32 := (fun x v => Host.reduceAdd x v reducesTo_S1x2048x768_S1x2048_d2 h_S_) main_v0 main_cst
  let main_v2 : FVec F S1x2048x1 .f32 := broadcastInDim S1x2048x1 ![0, 1] bcast_S1x2048_S1x2048x1_0_1 main_v1
  let main_cst_0 : FVec F S_ .f32 := constant S_ .f32 0x44400000#32
  let main_v3 : FVec F S1x2048x1 .f32 := broadcastInDim S1x2048x1 ![] bcast_S_S1x2048x1 main_cst_0
  let main_v4 : FVec F S1x2048x1 .f32 := Host.divf main_v2 main_v3
  let main_cst_1 : FVec F S_ .f32 := constant S_ .f32 0x358637BD#32
  let main_v5 : FVec F S1x2048x1 .f32 := broadcastInDim S1x2048x1 ![] bcast_S_S1x2048x1 main_cst_1
  let main_v6 : FVec F S1x2048x1 .f32 := addf main_v4 main_v5
  let main_v7 : FVec F S1x2048x1 .f32 := Host.rsqrt main_v6
  let main_v8 : FVec F S1x2048x768 .f32 := broadcastInDim S1x2048x768 ![0, 1, 2] bcast_S1x2048x1_S1x2048x768_0_1_2 main_v7
  let main_v9 : FVec F S1x2048x768 .f32 := mulf main_arg0 main_v8
  let main_cst_2 : FVec F S_ .f32 := constant S_ .f32 0x44400000#32
  let main_v10 : FVec F S_ .f32 := Host.rsqrt main_cst_2
  let main_v11 : FVec F S1x2048x768 .f32 := broadcastInDim S1x2048x768 ![] bcast_S_S1x2048x768 main_v10
  let main_v12 : FVec F S1x2048x768 .f32 := mulf main_v9 main_v11
  let main_v13 : FVec F S1x1x768 .f32 := broadcastInDim S1x1x768 ![2] bcast_S768_S1x1x768_2 main_arg1
  let main_v14 : FVec F S1x2048x768 .f32 := broadcastInDim S1x2048x768 ![0, 1, 2] bcast_S1x1x768_S1x2048x768_0_1_2 main_v13
  let main_v15 : FVec F S1x2048x768 .f32 := mulf main_v12 main_v14
  let main_v16 : FVec F S1x2048x8 .f32 := (fun l r => Host.dotGeneral dot_S1x2048x768_S768x8_S1x2048x8_2_0_01_1_n_n none l r) main_v15 main_arg3
  let main_v17 : FVec F S1x2048x1x8 .f32 := broadcastInDim S1x2048x1x8 ![0, 1, 3] bcast_S1x2048x8_S1x2048x1x8_0_1_3 main_v16
  let main_v18 : FVec F S1x2048x8x1 .f32 := broadcastInDim S1x2048x8x1 ![0, 1, 2] bcast_S1x2048x8_S1x2048x8x1_0_1_2 main_v16
  let main_v19 : FVec F S1x2048x8x8 .f32 := broadcastInDim S1x2048x8x8 ![0, 1, 2, 3] bcast_S1x2048x1x8_S1x2048x8x8_0_1_2_3 main_v17
  fn_part1 (F := F) main_v18 main_v19
-- ==== Kernel.lean ====
abbrev S1x2048x768 : Shape := ⟨3, ![1, 2048, 768]⟩
abbrev S768 : Shape := ⟨1, ![768]⟩
abbrev S8 : Shape := ⟨1, ![8]⟩
abbrev S768x8 : Shape := ⟨2, ![768, 8]⟩
abbrev S8x2x2048x768 : Shape := ⟨4, ![8, 2, 2048, 768]⟩
abbrev S8x2048x768 : Shape := ⟨3, ![8, 2048, 768]⟩
abbrev S2048x768 : Shape := ⟨2, ![2048, 768]⟩
abbrev S1x768 : Shape := ⟨2, ![1, 768]⟩
abbrev S1x8 : Shape := ⟨2, ![1, 8]⟩
abbrev S2048x1 : Shape := ⟨2, ![2048, 1]⟩
abbrev S32x1 : Shape := ⟨2, ![32, 1]⟩
abbrev S2048 : Shape := ⟨1, ![2048]⟩
abbrev S2048x8 : Shape := ⟨2, ![2048, 8]⟩
abbrev S8x8 : Shape := ⟨2, ![8, 8]⟩
abbrev S128x128 : Shape := ⟨2, ![128, 128]⟩
abbrev S128x8 : Shape := ⟨2, ![128, 8]⟩
abbrev S32x8 : Shape := ⟨2, ![32, 8]⟩
abbrev S32 : Shape := ⟨1, ![32]⟩
abbrev S8x1x2048x768 : Shape := ⟨4, ![8, 1, 2048, 768]⟩
abbrev S1 : Shape := ⟨1, ![1]⟩
abbrev S2048x512 : Shape := ⟨2, ![2048, 512]⟩
abbrev S512x768 : Shape := ⟨2, ![512, 768]⟩
abbrev S512x2048 : Shape := ⟨2, ![512, 2048]⟩
abbrev S512 : Shape := ⟨1, ![512]⟩
abbrev S1x512 : Shape := ⟨2, ![1, 512]⟩
abbrev S512x1 : Shape := ⟨2, ![512, 1]⟩

abbrev nBuf : Space → Nat
  | .hbm => 23
  | .vmem => 21
  | .smem => 1
  | _ => 0

abbrev bufTy : (tb : Table) → Fin (tcTables nBuf tb) → BufTy
  | .hbm, ⟨0, _⟩ => ⟨S1x2048x768, .f32⟩
  | .hbm, ⟨1, _⟩ => ⟨S768, .f32⟩
  | .hbm, ⟨2, _⟩ => ⟨S8, .f32⟩
  | .hbm, ⟨3, _⟩ => ⟨S768x8, .f32⟩
  | .hbm, ⟨4, _⟩ => ⟨S8x2x2048x768, .f32⟩
  | .hbm, ⟨5, _⟩ => ⟨S8x2048x768, .f32⟩
  | .hbm, ⟨6, _⟩ => ⟨S2048x768, .f32⟩
  | .hbm, ⟨7, _⟩ => ⟨S1x768, .f32⟩
  | .hbm, ⟨8, _⟩ => ⟨S1x8, .f32⟩
  | .hbm, ⟨9, _⟩ => ⟨S2048x1, .f32⟩
  | .hbm, ⟨10, _⟩ => ⟨S2048x1, .f32⟩
  | .hbm, ⟨11, _⟩ => ⟨S2048x1, .i32⟩
  | .hbm, ⟨12, _⟩ => ⟨S2048x1, .i32⟩
  | .hbm, ⟨13, _⟩ => ⟨S32x1, .i32⟩
  | .hbm, ⟨14, _⟩ => ⟨S8x2x2048x768, .bf16⟩
  | .hbm, ⟨15, _⟩ => ⟨S8x1x2048x768, .bf16⟩
  | .hbm, ⟨16, _⟩ => ⟨S8x2048x768, .bf16⟩
  | .hbm, ⟨17, _⟩ => ⟨S8x1x2048x768, .bf16⟩
  | .hbm, ⟨18, _⟩ => ⟨S8x2048x768, .bf16⟩
  | .hbm, ⟨19, _⟩ => ⟨S8x2048x768, .bf16⟩
  | .hbm, ⟨20, _⟩ => ⟨S2048x768, .bf16⟩
  | .hbm, ⟨21, _⟩ => ⟨S2048x768, .f32⟩
  | .hbm, ⟨22, _⟩ => ⟨S1x2048x768, .f32⟩
  | .local _ .vmem, ⟨0, _⟩ => ⟨S2048x768, .f32⟩
  | .local _ .vmem, ⟨1, _⟩ => ⟨S1x768, .f32⟩
  | .local _ .vmem, ⟨2, _⟩ => ⟨S768x8, .f32⟩
  | .local _ .vmem, ⟨3, _⟩ => ⟨S1x8, .f32⟩
  | .local _ .vmem, ⟨4, _⟩ => ⟨S2048x1, .f32⟩
  | .local _ .vmem, ⟨5, _⟩ => ⟨S2048x1, .f32⟩
  | .local _ .vmem, ⟨6, _⟩ => ⟨S2048x1, .i32⟩
  | .local _ .vmem, ⟨7, _⟩ => ⟨S2048x1, .i32⟩
  | .local _ .vmem, ⟨8, _⟩ => ⟨S32x1, .i32⟩
  | .local _ .vmem, ⟨9, _⟩ => ⟨S2048x768, .bf16⟩
  | .local _ .vmem, ⟨10, _⟩ => ⟨S2048x1, .i32⟩
  | .local _ .vmem, ⟨11, _⟩ => ⟨S2048x1, .i32⟩
  | .local _ .vmem, ⟨12, _⟩ => ⟨S2048x1, .f32⟩
  | .local _ .vmem, ⟨13, _⟩ => ⟨S2048x1, .f32⟩
  | .local _ .vmem, ⟨14, _⟩ => ⟨S1x2048x768, .bf16⟩
  | .local _ .vmem, ⟨15, _⟩ => ⟨S1x2048x768, .bf16⟩
  | .local _ .vmem, ⟨16, _⟩ => ⟨S1x2048x768, .bf16⟩
  | .local _ .vmem, ⟨17, _⟩ => ⟨S1x2048x768, .bf16⟩
  | .local _ .vmem, ⟨18, _⟩ => ⟨S1x2048x768, .bf16⟩
  | .local _ .vmem, ⟨19, _⟩ => ⟨S1x2048x768, .bf16⟩
  | .local _ .vmem, ⟨20, _⟩ => ⟨S2048x768, .f32⟩
  | .local _ .smem, ⟨0, _⟩ => ⟨S32, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v12 : Ref sig .tc := ⟨.hbm, 21, rfl⟩
abbrev main_v13 : Ref sig .tc := ⟨.hbm, 22, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![16], ![false]⟩

abbrev pre1 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k1_cond2 (i : grid1.Coords) : BitVec 1 :=
  let arg0 : BitVec 32 := BitVec.ofNat 32 (i 0).val
  let c0_i32_29 : BitVec 32 := 0#32
  let v72 : BitVec 1 := Scalar.cmpi .eq arg0 c0_i32_29
  let v73 : BitVec 32 := Scalar.extui v72
  let c0_i32_30 : BitVec 32 := 0#32
  let v74 : BitVec 1 := Scalar.cmpi .ne v73 c0_i32_30
  v74

def k1_cond3 (i : grid1.Coords) : BitVec 1 :=
  let arg0 : BitVec 32 := BitVec.ofNat 32 (i 0).val
  let c0_i32_31 : BitVec 32 := 0#32
  let v75 : BitVec 1 := Scalar.cmpi .sgt arg0 c0_i32_31
  let v76 : BitVec 32 := Scalar.extui v75
  let c0_i32_32 : BitVec 32 := 0#32
  let v77 : BitVec 1 := Scalar.cmpi .ne v76 c0_i32_32
  v77

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc1_transform_6 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc1_transform_7 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2048x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x768 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2048x768 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2048x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S1x2048x768 : Shape := ⟨3, ![1, 2048, 768]⟩
abbrev S768 : Shape := ⟨1, ![768]⟩
abbrev S8 : Shape := ⟨1, ![8]⟩
abbrev S768x8 : Shape := ⟨2, ![768, 8]⟩
abbrev S8x2x2048x768 : Shape := ⟨4, ![8, 2, 2048, 768]⟩
abbrev S8x2048x768 : Shape := ⟨3, ![8, 2048, 768]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x8 : Shape := ⟨3, ![1, 2048, 8]⟩
abbrev S1x2048x1x8 : Shape := ⟨4, ![1, 2048, 1, 8]⟩
abbrev S1x2048x8x1 : Shape := ⟨4, ![1, 2048, 8, 1]⟩
abbrev S1x2048x8x8 : Shape := ⟨4, ![1, 2048, 8, 8]⟩
abbrev S8x1x2048x768 : Shape := ⟨4, ![8, 1, 2048, 768]⟩
abbrev S1x2048x8x2048 : Shape := ⟨4, ![1, 2048, 8, 2048]⟩
abbrev S8x768x1x2048 : Shape := ⟨4, ![8, 768, 1, 2048]⟩
abbrev S1x2048x8x768 : Shape := ⟨4, ![1, 2048, 8, 768]⟩
abbrev S8x1 : Shape := ⟨2, ![8, 1]⟩
abbrev S1x1x8x1 : Shape := ⟨4, ![1, 1, 8, 1]⟩

abbrev nBuf : Space → Nat
  | .hbm => 102
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768, .f32⟩
  | .hbm, ⟨2, _⟩ => ⟨S8, .f32⟩
  | .hbm, ⟨3, _⟩ => ⟨S768x8, .f32⟩
  | .hbm, ⟨4, _⟩ => ⟨S8x2x2048x768, .f32⟩
  | .hbm, ⟨5, _⟩ => ⟨S8x2048x768, .f32⟩
  | .hbm, ⟨6, _⟩ => ⟨S1x2048x768, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x768, .f32⟩
  | .hbm, ⟨18, _⟩ => ⟨S1x2048x768, .f32⟩
  | .hbm, ⟨19, _⟩ => ⟨S_, .f32⟩
  | .hbm, ⟨20, _⟩ => ⟨S_, .f32⟩
  | .hbm, ⟨21, _⟩ => ⟨S1x2048x768, .f32⟩
  | .hbm, ⟨22, _⟩ => ⟨S1x2048x768, .f32⟩
  | .hbm, ⟨23, _⟩ => ⟨S1x1x768, .f32⟩
  | .hbm, ⟨24, _⟩ => ⟨S1x2048x768, .f32⟩
  | .hbm, ⟨25, _⟩ => ⟨S1x2048x768, .f32⟩
  | .hbm, ⟨26, _⟩ => ⟨S1x2048x8, .f32⟩
  | .hbm, ⟨27, _⟩ => ⟨S_, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S1x2048x1, .f32⟩
  | .hbm, ⟨33, _⟩ => ⟨S1x2048x8, .f32⟩
  | .hbm, ⟨34, _⟩ => ⟨S1x2048x8, .f32⟩
  | .hbm, ⟨35, _⟩ => ⟨S1x2048x8, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S1x2048x8, .f32⟩
  | .hbm, ⟨40, _⟩ => ⟨S1x2048x8, .f32⟩
  | .hbm, ⟨41, _⟩ => ⟨S1x2048x1x8, .f32⟩
  | .hbm, ⟨42, _⟩ => ⟨S1x2048x8x1, .f32⟩
  | .hbm, ⟨43, _⟩ => ⟨S1x2048x8x8, .f32⟩
  | .hbm, ⟨44, _⟩ => ⟨S1x2048x8x8, .f32⟩
  | .hbm, ⟨45, _⟩ => ⟨S1x2048x8x8, .i1⟩
  | .hbm, ⟨46, _⟩ => ⟨S1x2048x8x8, .i32⟩
  | .hbm, ⟨47, _⟩ => ⟨S_, .i32⟩
  | .hbm, ⟨48, _⟩ => ⟨S1x2048x8, .i32⟩
  | .hbm, ⟨49, _⟩ => ⟨S_, .i32⟩
  | .hbm, ⟨50, _⟩ => ⟨S1x2048x8, .i32⟩
  | .hbm, ⟨51, _⟩ => ⟨S1x2048x8, .i1⟩
  | .hbm, ⟨52, _⟩ => ⟨S1x2048x8, .f32⟩
  | .hbm, ⟨53, _⟩ => ⟨S1x2048x8, .f32⟩
  | .hbm, ⟨54, _⟩ => ⟨S_, .f32⟩
  | .hbm, ⟨55, _⟩ => ⟨S1x2048, .f32⟩
  | .hbm, ⟨56, _⟩ => ⟨S1x2048x1, .f32⟩
  | .hbm, ⟨57, _⟩ => ⟨S_, .f32⟩
  | .hbm, ⟨58, _⟩ => ⟨S1x2048x1, .f32⟩
  | .hbm, ⟨59, _⟩ => ⟨S1x2048x1, .i1⟩
  | .hbm, ⟨60, _⟩ => ⟨S_, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S1x2048x8, .f32⟩
  | .hbm, ⟨65, _⟩ => ⟨S1x2048x8, .f32⟩
  | .hbm, ⟨66, _⟩ => ⟨S8x1x2048x768, .f32⟩
  | .hbm, ⟨67, _⟩ => ⟨S8x2048x768, .f32⟩
  | .hbm, ⟨68, _⟩ => ⟨S1x2048x8x2048, .f32⟩
  | .hbm, ⟨69, _⟩ => ⟨S8x1x2048x768, .f32⟩
  | .hbm, ⟨70, _⟩ => ⟨S8x2048x768, .f32⟩
  | .hbm, ⟨71, _⟩ => ⟨S1x2048x8x2048, .f32⟩
  | .hbm, ⟨72, _⟩ => ⟨S1x2048x8x2048, .f32⟩
  | .hbm, ⟨73, _⟩ => ⟨S1x2048x8x2048, .f32⟩
  | .hbm, ⟨74, _⟩ => ⟨S_, .f32⟩
  | .hbm, ⟨75, _⟩ => ⟨S1x2048x8x2048, .f32⟩
  | .hbm, ⟨76, _⟩ => ⟨S1x2048x8x2048, .f32⟩
  | .hbm, ⟨77, _⟩ => ⟨S1x2048x8x2048, .f32⟩
  | .hbm, ⟨78, _⟩ => ⟨S_, .f32⟩
  | .hbm, ⟨79, _⟩ => ⟨S1x2048x8x2048, .f32⟩
  | .hbm, ⟨80, _⟩ => ⟨S1x2048x8x2048, .f32⟩
  | .hbm, ⟨81, _⟩ => ⟨S1x2048x8x2048, .f32⟩
  | .hbm, ⟨82, _⟩ => ⟨S_, .f32⟩
  | .hbm, ⟨83, _⟩ => ⟨S1x2048x8x2048, .f32⟩
  | .hbm, ⟨84, _⟩ => ⟨S1x2048x8x2048, .f32⟩
  | .hbm, ⟨85, _⟩ => ⟨S_, .f32⟩
  | .hbm, ⟨86, _⟩ => ⟨S1x2048x8x2048, .f32⟩
  | .hbm, ⟨87, _⟩ => ⟨S1x2048x8x2048, .f32⟩
  | .hbm, ⟨88, _⟩ => ⟨S1x2048x8x2048, .f32⟩
  | .hbm, ⟨89, _⟩ => ⟨S1x2048x8x2048, .f32⟩
  | .hbm, ⟨90, _⟩ => ⟨S8x768x1x2048, .f32⟩
  | .hbm, ⟨91, _⟩ => ⟨S1x2048x8x768, .f32⟩
  | .hbm, ⟨92, _⟩ => ⟨S8x1, .f32⟩
  | .hbm, ⟨93, _⟩ => ⟨S1x1x8x1, .f32⟩
  | .hbm, ⟨94, _⟩ => ⟨S1x2048x8x768, .f32⟩
  | .hbm, ⟨95, _⟩ => ⟨S1x2048x8x768, .f32⟩
  | .hbm, ⟨96, _⟩ => ⟨S1x2048x8, .f32⟩
  | .hbm, ⟨97, _⟩ => ⟨S1x2048x8x1, .f32⟩
  | .hbm, ⟨98, _⟩ => ⟨S1x2048x8x768, .f32⟩
  | .hbm, ⟨99, _⟩ => ⟨S1x2048x8x768, .f32⟩
  | .hbm, ⟨100, _⟩ => ⟨S_, .f32⟩
  | .hbm, ⟨101, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_call0_v0 : Ref sig .tc := ⟨.hbm, 61, rfl⟩
abbrev main_call0_v1 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Proof.KernelIdeal.Router.lean ====
/- The router call: what its body leaves in each output, and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Input window 0's staging buffer holds its block at every point, whether fetched there or not. -/
theorem before0_0_of {c : Dev nD} (D : Dat τ (Elt F) Unit ℕ (UR sig nD τ) ℕ cfg0 c) (hA : D.A 0 = W c (Proc.devRef .tc (Pipeline.arrRef spec0 0)))
    (hafter : ∀ t, D.after 0 t = iblk W c 0 t) (t : Fin cfg0.N) (d) : D.before 0 t d = iblk W c 0 t :=
  (D.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether fetched there or not. -/
theorem before0_1_of {c : Dev nD} (D : Dat τ (Elt F) Unit ℕ (UR sig nD τ) ℕ cfg0 c) (hA : D.A 1 = W c (Proc.devRef .tc (Pipeline.arrRef spec0 1)))
    (hafter : ∀ t, D.after 1 t = iblk W c 1 t) (t : Fin cfg0.N) (d) : D.before 1 t d = iblk W c 1 t :=
  (D.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether fetched there or not. -/
theorem before0_2_of {c : Dev nD} (D : Dat τ (Elt F) Unit ℕ (UR sig nD τ) ℕ cfg0 c) (hA : D.A 2 = W c (Proc.devRef .tc (Pipeline.arrRef spec0 2)))
    (hafter : ∀ t, D.after 2 t = iblk W c 2 t) (t : Fin cfg0.N) (d) : D.before 2 t d = iblk W c 2 t :=
  (D.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether fetched there or not. -/
theorem before0_3_of {c : Dev nD} (D : Dat τ (Elt F) Unit ℕ (UR sig nD τ) ℕ cfg0 c) (hA : D.A 3 = W c (Proc.devRef .tc (Pipeline.arrRef spec0 3)))
    (hafter : ∀ t, D.after 3 t = iblk W c 3 t) (t : Fin cfg0.N) (d) : D.before 3 t d = iblk W c 3 t :=
  (D.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2048x768 := Rect.unit (s := S2048x768) ![0, 0] S2048x768.size inb_S2048x768_S2048x768_0_0
abbrev r0_1 : Rect S1x768 := Rect.unit (s := S1x768) ![0, 0] S1x768.size inb_S1x768_S1x768_0_0
abbrev r0_2 : Rect S768x8 := Rect.unit (s := S768x8) ![0, 0] S768x8.size inb_S768x8_S768x8_0_0
abbrev r0_3 : Rect S1x8 := Rect.unit (s := S1x8) ![0, 0] S1x8.size inb_S1x8_S1x8_0_0
abbrev r0_4 : Rect S2048x1 := Rect.unit (s := S2048x1) ![0, 0] S2048x1.size inb_S2048x1_S2048x1_0_0
abbrev r0_5 : Rect S32x1 := Rect.unit (s := S32x1) ![0, 0] S32x1.size inb_S32x1_S32x1_0_0

/-! ## What the body leaves in each output window's buffer -/

/-! ### Values of the body that several stores share -/

/-- The probabilities of the experts. -/
def probs (x0 : Vec F S2048x768 .f32) (x1 : Vec F S1x768 .f32) (x2 : Vec F S768x8 .f32) : FVec F S2048x8 .f32 :=
  k0_pay6 (View.ld x0 r0_0) (View.ld x1 r0_1) (View.ld x2 r0_2)
/-- The logits with the largest of each row taken out. -/
def rest (x0 : Vec F S2048x768 .f32) (x1 : Vec F S1x768 .f32) (x2 : Vec F S768x8 .f32) : FVec F S2048x8 .f32 :=
  k0_pay8 (View.ld x0 r0_0) (View.ld x1 r0_1) (View.ld x2 r0_2)
/-- The largest of the remaining logits of each row. -/
def second (x0 : Vec F S2048x768 .f32) (x1 : Vec F S1x768 .f32) (x2 : Vec F S768x8 .f32) : FVec F S2048x1 .f32 :=
  k0_pay9 (View.ld x0 r0_0) (View.ld x1 r0_1) (View.ld x2 r0_2)
/-- Where the largest logit of each row is, as words. -/
def hotw (x0 : Vec F S2048x768 .f32) (x1 : Vec F S1x768 .f32) (x2 : Vec F S768x8 .f32) : IVec S2048x8 32 :=
  k0_pay10 (View.ld x0 r0_0) (View.ld x1 r0_1) (View.ld x2 r0_2)
/-- Where the two largest logits of each row are. -/
def both (x0 : Vec F S2048x768 .f32) (x1 : Vec F S1x768 .f32) (x2 : Vec F S768x8 .f32) : FVec F S2048x8 .f32 :=
  k0_pay16 (rest x0 x1 x2) (second x0 x1 x2) (hotw x0 x1 x2)
/-- The count of each expert's choices, plus 511. -/
def cnt (x0 : Vec F S2048x768 .f32) (x1 : Vec F S1x768 .f32) (x2 : Vec F S768x8 .f32) : IVec S1x8 32 :=
  k0_pay17 (rest x0 x1 x2) (second x0 x1 x2) (hotw x0 x1 x2)
/-- The end of each expert's group. -/
def ends (x0 : Vec F S2048x768 .f32) (x1 : Vec F S1x768 .f32) (x2 : Vec F S768x8 .f32) : FVec F S1x8 .f32 :=
  k0_pay22 (cnt x0 x1 x2) 512#32 (k0_pay18 (rest x0 x1 x2) (second x0 x1 x2) (hotw x0 x1 x2)) (k0_pay19 (rest x0 x1 x2) (second x0 x1 x2) (hotw x0 x1 x2)) k0_pay20
/-- The start of each expert's group. -/
def offs (x0 : Vec F S2048x768 .f32) (x1 : Vec F S1x768 .f32) (x2 : Vec F S768x8 .f32) : FVec F S1x8 .f32 :=
  k0_pay23 (cnt x0 x1 x2) 512#32 (k0_pay18 (rest x0 x1 x2) (second x0 x1 x2) (hotw x0 x1 x2)) (k0_pay19 (rest x0 x1 x2) (second x0 x1 x2) (hotw x0 x1 x2)) k0_pay20
/-- How many earlier rows chose each expert, from the choices `b`. -/
def ranks (b : FVec F S2048x8 .f32) : FVec F S2048x8 .f32 :=
  concatenate S2048x8 0 [⟨S128x8, k0_pay27 b⟩, ⟨S128x8, k0_pay30 b⟩, ⟨S128x8, k0_pay33 k0_pay24 (k0_pay31 b) (k0_pay32 b)⟩, ⟨S128x8, k0_pay36 b k0_pay24 (k0_pay31 b) (k0_pay32 b)⟩, ⟨S128x8, k0_pay39 b k0_pay24 (k0_pay31 b) (k0_pay32 b)⟩, ⟨S128x8, k0_pay42 b k0_pay24 (k0_pay31 b) (k0_pay32 b)⟩, ⟨S128x8, k0_pay45 b k0_pay24 (k0_pay31 b) (k0_pay32 b)⟩, ⟨S128x8, k0_pay48 b k0_pay24 (k0_pay31 b) (k0_pay32 b)⟩, ⟨S128x8, k0_pay51 b k0_pay24 (k0_pay31 b) (k0_pay32 b)⟩, ⟨S128x8, k0_pay55 b k0_pay24 (k0_pay49 b (k0_pay31 b) (k0_pay32 b)) (k0_pay52 b)⟩, ⟨S128x8, k0_pay58 b k0_pay24 (k0_pay49 b (k0_pay31 b) (k0_pay32 b)) (k0_pay52 b)⟩, ⟨S128x8, k0_pay61 b k0_pay24 (k0_pay49 b (k0_pay31 b) (k0_pay32 b)) (k0_pay52 b)⟩, ⟨S128x8, k0_pay64 b k0_pay24 (k0_pay49 b (k0_pay31 b) (k0_pay32 b)) (k0_pay52 b)⟩, ⟨S128x8, k0_pay67 b k0_pay24 (k0_pay49 b (k0_pay31 b) (k0_pay32 b)) (k0_pay52 b)⟩, ⟨S128x8, k0_pay70 b k0_pay24 (k0_pay49 b (k0_pay31 b) (k0_pay32 b)) (k0_pay52 b)⟩, ⟨S128x8, addf (k0_pay71 b k0_pay24) (k0_pay72 b (k0_pay49 b (k0_pay31 b) (k0_pay32 b)) (k0_pay52 b))⟩] concatenates_S128x8_S128x8_S128x8_S128x8_S128x8_S128x8_S128x8_S128x8_S128x8_S128x8_S128x8_S128x8_S128x8_S128x8_S128x8_S128x8_S2048x8_d0
/-- The slot a row takes in each expert's group. -/
def slots (x0 : Vec F S2048x768 .f32) (x1 : Vec F S1x768 .f32) (x2 : Vec F S768x8 .f32) : FVec F S2048x8 .f32 :=
  k0_pay1 (offs x0 x1 x2) (ranks (both x0 x1 x2))

/-- What the body leaves in the staging buffer of window 4, from the blocks of the inputs. -/
def out0_4 (x0 : Vec F S2048x768 .f32) (x1 : Vec F S1x768 .f32) (x2 : Vec F S768x8 .f32) (x3 : Vec F S1x8 .f32) : Vec F S2048x1 .f32 :=
  View.canon [⟨r0_4, k0_pay14 (probs x0 x1 x2) (rest x0 x1 x2) (second x0 x1 x2) (hotw x0 x1 x2) (View.ld x3 r0_3)⟩]

/-- Its one store covers it. -/
theorem cover0_4 (p0 : Vec F S2048x1 .f32) (y : S2048x1.Idx) :
    ∃ pc ∈ ([⟨r0_4, p0⟩] : List (View.Piece (Elt F) S2048x1 .f32)), y ∈ pc.1.set :=
  View.cover_of_tiled [⟨r0_4, p0⟩] S2048x1.size (by rfl) y

/-- What the body leaves in the staging buffer of window 5, from the blocks of the inputs. -/
def out0_5 (x0 : Vec F S2048x768 .f32) (x1 : Vec F S1x768 .f32) (x2 : Vec F S768x8 .f32) (x3 : Vec F S1x8 .f32) : Vec F S2048x1 .f32 :=
  View.canon [⟨r0_4, k0_pay15 (probs x0 x1 x2) (rest x0 x1 x2) (second x0 x1 x2) (hotw x0 x1 x2) (View.ld x3 r0_3)⟩]

/-- Its one store covers it. -/
theorem cover0_5 (p0 : Vec F S2048x1 .f32) (y : S2048x1.Idx) :
    ∃ pc ∈ ([⟨r0_4, p0⟩] : List (View.Piece (Elt F) S2048x1 .f32)), y ∈ pc.1.set :=
  View.cover_of_tiled [⟨r0_4, p0⟩] S2048x1.size (by rfl) y

/-- What the body leaves in the staging buffer of window 6, from the blocks of the inputs. -/
def out0_6 (x0 : Vec F S2048x768 .f32) (x1 : Vec F S1x768 .f32) (x2 : Vec F S768x8 .f32) (x3 : Vec F S1x8 .f32) : Vec F S2048x1 .i32 :=
  View.canon [⟨r0_4, k0_pay2 (k0_pay11 (hotw x0 x1 x2)) (slots x0 x1 x2)⟩]

/-- Its one store covers it. -/
theorem cover0_6 (p0 : Vec F S2048x1 .i32) (y : S2048x1.Idx) :
    ∃ pc ∈ ([⟨r0_4, p0⟩] : List (View.Piece (Elt F) S2048x1 .i32)), y ∈ pc.1.set :=
  View.cover_of_tiled [⟨r0_4, p0⟩] S2048x1.size (by rfl) y

/-- What the body leaves in the staging buffer of window 7, from the blocks of the inputs. -/
def out0_7 (x0 : Vec F S2048x768 .f32) (x1 : Vec F S1x768 .f32) (x2 : Vec F S768x8 .f32) (x3 : Vec F S1x8 .f32) : Vec F S2048x1 .i32 :=
  View.canon [⟨r0_4, k0_pay3 (k0_pay12 (rest x0 x1 x2) (second x0 x1 x2)) (slots x0 x1 x2)⟩]

/-- Its one store covers it. -/
theorem cover0_7 (p0 : Vec F S2048x1 .i32) (y : S2048x1.Idx) :
    ∃ pc ∈ ([⟨r0_4, p0⟩] : List (View.Piece (Elt F) S2048x1 .i32)), y ∈ pc.1.set :=
  View.cover_of_tiled [⟨r0_4, p0⟩] S2048x1.size (by rfl) y

/-- What the body leaves in the staging buffer of window 8, from the blocks of the inputs. -/
def out0_8 (x0 : Vec F S2048x768 .f32) (x1 : Vec F S1x768 .f32) (x2 : Vec F S768x8 .f32) (x3 : Vec F S1x8 .f32) : Vec F S32x1 .i32 :=
  View.canon [⟨r0_5, k0_pay4 (ends x0 x1 x2)⟩]

/-- Its one store covers it. -/
theorem cover0_8 (p0 : Vec F S32x1 .i32) (y : S32x1.Idx) :
    ∃ pc ∈ ([⟨r0_5, p0⟩] : List (View.Piece (Elt F) S32x1 .i32)), y ∈ pc.1.set :=
  View.cover_of_tiled [⟨r0_5, p0⟩] S32x1.size (by rfl) y

/-! ## The body's triple -/

set_option maxHeartbeats 1000000 in
/-- The body, run on whole staging buffers: the inputs stay as they were and each output holds `out0_W` of them. -/
theorem sound_kernel (c : Dev nD) (E : Set ℕ) (arg0 : Memref sig .tc .vmem S2048x768 .f32) (harg0 : arg0.IsWhole) (arg1 : Memref sig .tc .vmem S1x768 .f32) (harg1 : arg1.IsWhole) (arg2 : Memref sig .tc .vmem S768x8 .f32) (harg2 : arg2.IsWhole) (arg3 : Memref sig .tc .vmem S1x8 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .i32) (harg6 : arg6.IsWhole) (arg7 : Memref sig .tc .vmem S2048x1 .i32) (harg7 : arg7.IsWhole) (arg8 : Memref sig .tc .vmem S32x1 .i32) (harg8 : arg8.IsWhole)
    (x0 : Vec F S2048x768 .f32) (x1 : Vec F S1x768 .f32) (x2 : Vec F S768x8 .f32) (x3 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3) ∗ owns (c : Thread nD τ) arg7 fullShare (out0_7 x0 x1 x2 x3) ∗ owns (c : Thread nD τ) arg8 fullShare (out0_8 x0 x1 x2 x3)) -∗ K ⟨⟩))
      ⊢ wp frame (wpE (defs₀ (F := F)) Variants.none c none) E (cc0__router_kernel arg0 harg0 arg1 harg1 arg2 harg2 arg3 harg3 arg4 harg4 arg5 harg5 arg6 harg6 arg7 harg7 arg8 harg8) K := by
  simp only [cc0__router_kernel_eq_skeleton]; unfold cc0__router_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32
    unfold out0_4 probs rest second hotw
    rfl
  isplitl [H5]
  · iexists _; isplitr
    swap; · iexact H5
    ipureintro
    refine (View.read_writes_eq_canon _ _ _ (cover0_5 _)).trans ?_
    delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32
    unfold out0_5 probs rest second hotw
    rfl
  isplitl [H6]
  · iexists _; isplitr
    swap; · iexact H6
    ipureintro
    refine (View.read_writes_eq_canon _ _ _ (cover0_6 _)).trans ?_
    delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32
    unfold out0_6 slots offs ranks both cnt rest second hotw
    rfl
  isplitl [H7]
  · iexists _; isplitr
    swap; · iexact H7
    ipureintro
    refine (View.read_writes_eq_canon _ _ _ (cover0_7 _)).trans ?_
    delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32
    unfold out0_7 slots offs ranks both cnt rest second hotw
    rfl
  iexists _; isplitr
  swap; · iexact H8
  ipureintro
  refine (View.read_writes_eq_canon _ _ _ (cover0_8 _)).trans ?_
  delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32
  unfold out0_8 ends cnt rest second hotw
  rfl

/-! ## The pipeline's proof data -/

/-- The proof data of the router call on core `c`, the arrays entered at the valuation `W c`: an input keeps its block, an output
    is left at `out0_W` of the blocks. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => out0_4 (iblk W c 0 t) (iblk W c 1 t) (iblk W c 2 t) (iblk W c 3 t)
    | ⟨5, _⟩ => out0_5 (iblk W c 0 t) (iblk W c 1 t) (iblk W c 2 t) (iblk W c 3 t)
    | ⟨6, _⟩ => out0_6 (iblk W c 0 t) (iblk W c 1 t) (iblk W c 2 t) (iblk W c 3 t)
    | ⟨7, _⟩ => out0_7 (iblk W c 0 t) (iblk W c 1 t) (iblk W c 2 t) (iblk W c 3 t)
    | ⟨8, _⟩ => out0_8 (iblk W c 0 t) (iblk W c 1 t) (iblk W c 2 t) (iblk W c 3 t)
  Φ _ := Pipeline.ΦA spec0 c
  q _ := fullShare
  owed _ := 0

/-- The arrays at entry. -/
theorem A_eq (c : Dev nD) (w : Fin cfg0.W) : (dat W c).A w = W c (Proc.devRef .tc (Pipeline.arrRef spec0 w)) := by
  dsimp only [dat]

/-- What the body leaves, window by window. -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = out0_4 (iblk W c 0 t) (iblk W c 1 t) (iblk W c 2 t) (iblk W c 3 t) := by dsimp only [dat]
theorem after0_5 (c : Dev nD) (t : Fin cfg0.N) : (dat W c).after 5 t = out0_5 (iblk W c 0 t) (iblk W c 1 t) (iblk W c 2 t) (iblk W c 3 t) := by dsimp only [dat]
theorem after0_6 (c : Dev nD) (t : Fin cfg0.N) : (dat W c).after 6 t = out0_6 (iblk W c 0 t) (iblk W c 1 t) (iblk W c 2 t) (iblk W c 3 t) := by dsimp only [dat]
theorem after0_7 (c : Dev nD) (t : Fin cfg0.N) : (dat W c).after 7 t = out0_7 (iblk W c 0 t) (iblk W c 1 t) (iblk W c 2 t) (iblk W c 3 t) := by dsimp only [dat]
theorem after0_8 (c : Dev nD) (t : Fin cfg0.N) : (dat W c).after 8 t = out0_8 (iblk W c 0 t) (iblk W c 1 t) (iblk W c 2 t) (iblk W c 3 t) := by dsimp only [dat]

/-- Each input's staging buffer holds its block. -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d

/-! ## The body obligation, at a generic point -/

/-- What the body is called with at point `t`, the windows one by one, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t))

/-- The body at any point: `sound_kernel` at the blocks, the invariant and the debts untouched. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3]
  rw [show (dat W c).Φ t.succ = (dat W c).Φ t.castSucc from rfl,
    show (dat W c).owesAt () t.succ = (dat W c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ (iblk W c 0 t) (iblk W c 1 t) (iblk W c 2 t) (iblk W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body that the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

end Cert.KernelIdeal.Router

end
-- ==== Proof.KernelIdeal.Gmm.lean ====
/- The grouped product call: what its body leaves in the output block at each point, as one step on what it found there. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace Cert.KernelIdeal.Gmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of each block's expert, as the call holds it. -/
abbrev tb : Memref sig .tc .smem S32 .i32 := Memref.whole main_v11

/-- The expert of block `i`, read off the table's contents `T`. -/
def word (i : grid1.Coords) (T : S32.Idx → Elt F .i32) : BitVec 32 :=
  View.readAt (Elt F) tb.view (Rect.unit (s := S32) (k1_off1 i) S1.size (k1_off1_inb i)).toLoadRect T (Shape.Idx.first (numel1_S1.symm ▸ Nat.one_pos))

/-- What block `i` adds to the output, from the blocks of the inputs. -/
def part (i : grid1.Coords) (x0 : Vec F S2048x768 .bf16) (x1 : Vec F S2048x1 .i32) (x2 : Vec F S2048x1 .i32) (x3 : Vec F S2048x1 .f32) (x4 : Vec F S2048x1 .f32) (x5 : Vec F S1x2048x768 .bf16) (x6 : Vec F S1x2048x768 .bf16) (x7 : Vec F S1x2048x768 .bf16) : FVec F S2048x768 .f32 :=
  k1_pay1 (k1_pay4 (BitVec.ofNat 32 (i 0).val) x1) (k1_pay5 (BitVec.ofNat 32 (i 0).val) x2) (k1_pay6 (BitVec.ofNat 32 (i 0).val) x1 x2) (k1_pay8 x7)
    (k1_pay9 (BitVec.ofNat 32 (i 0).val) x1 x2 x0 x5) (k1_pay10 (BitVec.ofNat 32 (i 0).val) x1 x2 x0 x6) (k1_pay11 (BitVec.ofNat 32 (i 0).val) x1 x2 x0 x5) x3 x4

/-- What block `i` makes of the output block `Y` that it adds to. -/
def more (i : grid1.Coords) (x0 : Vec F S2048x768 .bf16) (x1 : Vec F S2048x1 .i32) (x2 : Vec F S2048x1 .i32) (x3 : Vec F S2048x1 .f32) (x4 : Vec F S2048x1 .f32) (x5 : Vec F S1x2048x768 .bf16) (x6 : Vec F S1x2048x768 .bf16) (x7 : Vec F S1x2048x768 .bf16) (Y : Vec F S2048x768 .f32) : FVec F S2048x768 .f32 :=
  k1_pay2 (k1_pay4 (BitVec.ofNat 32 (i 0).val) x1) (k1_pay5 (BitVec.ofNat 32 (i 0).val) x2) (k1_pay6 (BitVec.ofNat 32 (i 0).val) x1 x2) (k1_pay8 x7)
    (k1_pay9 (BitVec.ofNat 32 (i 0).val) x1 x2 x0 x5) (k1_pay10 (BitVec.ofNat 32 (i 0).val) x1 x2 x0 x6) (k1_pay11 (BitVec.ofNat 32 (i 0).val) x1 x2 x0 x5) x3 x4 Y

/-- One step on the output block `Y`: the first block that computes at point 0 replaces it, a later one adds to it, and a
    block past the last group leaves it. -/
def next (i : grid1.Coords) (v : BitVec 32) (x0 : Vec F S2048x768 .bf16) (x1 : Vec F S2048x1 .i32) (x2 : Vec F S2048x1 .i32) (x3 : Vec F S2048x1 .f32) (x4 : Vec F S2048x1 .f32) (x5 : Vec F S1x2048x768 .bf16) (x6 : Vec F S1x2048x768 .bf16) (x7 : Vec F S1x2048x768 .bf16) (Y : Vec F S2048x768 .f32) : Vec F S2048x768 .f32 :=
  if k1_cond1 v = 1#1 then
    if k1_cond2 i = 1#1 then part i x0 x1 x2 x3 x4 x5 x6 x7 else more i x0 x1 x2 x3 x4 x5 x6 x7 Y
  else Y

/-- A point is either the first or a later one. -/
theorem cond3_iff : ∀ i : grid1.Coords, k1_cond3 i = 1#1 ↔ ¬(k1_cond2 i = 1#1) := by decide +kernel

abbrev r_a : Rect S2048x768 := Rect.unit (s := S2048x768) ![0, 0] S2048x768.size inb_S2048x768_S2048x768_0_0

theorem cover (p0 : Vec F S2048x768 .f32) (y : S2048x768.Idx) :
    ∃ pc ∈ ([⟨r_a, p0⟩] : List (View.Piece (Elt F) S2048x768 .f32)), y ∈ pc.1.set :=
  View.cover_of_tiled [⟨r_a, p0⟩] S2048x768.size (by rfl) y

/-- A load of a whole block reads the block. -/
theorem readAt_whole {sp : Space} {S : Shape} {e : EltTy} (v : View sig .tc sp S e) {off : Fin S.rank → ℕ} (inb : ∀ a, off a + S.size a ≤ S.size a)
    (f : v.ty.Contents (Elt F)) (h : ∀ a, off a = 0) :
    View.readAt (Elt F) v (Rect.unit (s := S) off S.size inb).toLoadRect f = View.read (Elt F) v f :=
  View.ld_unit_lit inb (View.read (Elt F) v f) h

theorem readAt_2 {sp : Space} {n m : ℕ} {e : EltTy} (v : View sig .tc sp ⟨2, ![n, m]⟩ e) (inb)
    (f : v.ty.Contents (Elt F)) :
    View.readAt (Elt F) v (Rect.unit (s := ⟨2, ![n, m]⟩) ![0, 0] ![n, m] inb).toLoadRect f = View.read (Elt F) v f :=
  readAt_whole v inb f (fun a => by fin_cases a <;> rfl)

theorem readAt_3 {sp : Space} {n m k : ℕ} {e : EltTy} (v : View sig .tc sp ⟨3, ![n, m, k]⟩ e) (inb)
    (f : v.ty.Contents (Elt F)) :
    View.readAt (Elt F) v (Rect.unit (s := ⟨3, ![n, m, k]⟩) ![0, 0, 0] ![n, m, k] inb).toLoadRect f = View.read (Elt F) v f :=
  readAt_whole v inb f (fun a => by fin_cases a <;> rfl)

set_option maxHeartbeats 4000000 in
/-- The body, run on whole staging buffers: the inputs and the table stay as they were and the output takes one step. -/
theorem sound_kernel (c : Dev nD) (E : Set ℕ) (i : grid1.Coords) (arg2 : Memref sig .tc .vmem S2048x768 .bf16) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x2048x768 .bf16) (harg9 : arg9.IsWhole) (arg10 : Memref sig .tc .vmem S2048x768 .f32) (harg10 : arg10.IsWhole)
    (T : S32.Idx → Elt F .i32) (x0 : Vec F S2048x768 .bf16) (x1 : Vec F S2048x1 .i32) (x2 : Vec F S2048x1 .i32) (x3 : Vec F S2048x1 .f32) (x4 : Vec F S2048x1 .f32) (x5 : Vec F S1x2048x768 .bf16) (x6 : Vec F S1x2048x768 .bf16) (x7 : Vec F S1x2048x768 .bf16) (Y : Vec F S2048x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (tb.view.loc (c : Thread nD τ) ↦{fullShare} T) ∗ owns (c : Thread nD τ) arg10 fullShare Y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (tb.view.loc (c : Thread nD τ) ↦{fullShare} T) ∗ owns (c : Thread nD τ) arg10 fullShare (next i (word i T) x0 x1 x2 x3 x4 x5 x6 x7 Y)) -∗ K ⟨⟩))
      ⊢ wp frame (wpE (defs₀ (F := F)) Variants.none c none) E (cc1__gmm_kernel i tb (Memref.isWhole_whole _) arg2 harg2 arg3 harg3 arg4 harg4 arg5 harg5 arg6 harg6 arg7 harg7 arg8 harg8 arg9 harg9 arg10 harg10) K := by
  rw [cc1__gmm_kernel_eq_skeleton]; unfold cc1__gmm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT, ⟨%f8, %hf8, H8⟩, Hk⟩
  subst hf0 hf1 hf2 hf3 hf4 hf5 hf6 hf7 hf8
  have hc := cond3_iff i
  unfold next
  by_cases h1 : k1_cond1 (word i T) = 1#1
  · rw [if_pos h1]
    unfold word at h1
    by_cases h2 : k1_cond2 i = 1#1
    · rw [if_pos h2]
      have h3 : ¬(k1_cond3 i = 1#1) := fun h => hc.mp h h2
      have hT0 : tb.IsWhole := Memref.isWhole_whole _
      sl_exec! (disch := first | (guard_target = k1_cond1 _ = _; exact h1) | (guard_target = k1_cond2 _ = _; exact h2) | (guard_target = ¬(k1_cond3 _ = _); exact h3))
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [HT]; · iexact HT
      iexists _; isplitr
      swap; · iexact H8
      ipureintro
      refine (View.read_writes_eq_canon _ _ _ (cover _)).trans ((View.canon_cons_unit_lit _ _ _ (by decide)).trans ?_)
      delta sound_kernel.sl.r_1 sound_kernel.sl.r_2 sound_kernel.sl.r_3 sound_kernel.sl.r_4 sound_kernel.sl.r_5 sound_kernel.sl.r_6 sound_kernel.sl.r_7
      simp only [readAt_2, readAt_3]
      rfl
    · rw [if_neg h2]
      have h3 : k1_cond3 i = 1#1 := hc.mpr h2
      have hT0 : tb.IsWhole := Memref.isWhole_whole _
      sl_exec! (disch := first | (guard_target = k1_cond1 _ = _; exact h1) | (guard_target = ¬(k1_cond2 _ = _); exact h2) | (guard_target = k1_cond3 _ = _; exact h3))
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [HT]; · iexact HT
      iexists _; isplitr
      swap; · iexact H8
      ipureintro
      refine (View.read_writes_eq_canon _ _ _ (cover _)).trans ((View.canon_cons_unit_lit _ _ _ (by decide)).trans ?_)
      delta sound_kernel.sl.r_9 sound_kernel.sl.r_10 sound_kernel.sl.r_11 sound_kernel.sl.r_12 sound_kernel.sl.r_13 sound_kernel.sl.r_14 sound_kernel.sl.r_15
      simp only [readAt_2, readAt_3]
      rfl
  · rw [if_neg h1]
    unfold word at h1
    have hT0 : tb.IsWhole := Memref.isWhole_whole _
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HT]; · iexact HT
    iexists _; isplitr
    swap; · iexact H8
    ipureintro
    rfl

end Cert.KernelIdeal.Gmm

end
-- ==== Proof.KernelIdeal.Region1.lean ====
/- The grouped product call as a region: what its body finds and leaves in each staging buffer, and what its output array holds at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Gmm
public import Idealize.ShloMosaic.Lib.Pipeline.FrameBody
public import Idealize.ShloMosaic.Lib.Pipeline.ArrRel
public import Idealize.ShloMosaic.Lib.Pipeline.ValueKit.Geometry
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace Cert.KernelIdeal.Gmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (a : (pcfg1 (F := F)).Adm) (W : Dev nD → Valuation τ sig (Elt F))

/-- Window `w`'s block of its array at point `t`. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- What rides along: the other scoped buffers, the generator's register and the table. -/
def Phi (c : Dev nD) : sProp 𝕄 := iprop(Pipeline.ΦA spec1 c ∗ Pipeline.prefHeld pre1 c (fun _ => fullShare) a.1)

/-- The inputs' blocks stay; of the output this says nothing (`rdat` does). -/
def dat (c : Dev nD) : Dat τ (Elt F) Unit ℕ (UR sig nD τ) ℕ (cfg1 a) c where
  A w := W c (Proc.devRef .tc (Pipeline.arrRef spec1 w))
  after w t := match w with
    | ⟨0, _⟩ => iblk a W c (0 : Fin 9) t
    | ⟨1, _⟩ => iblk a W c (1 : Fin 9) t
    | ⟨2, _⟩ => iblk a W c (2 : Fin 9) t
    | ⟨3, _⟩ => iblk a W c (3 : Fin 9) t
    | ⟨4, _⟩ => iblk a W c (4 : Fin 9) t
    | ⟨5, _⟩ => iblk a W c (5 : Fin 9) t
    | ⟨6, _⟩ => iblk a W c (6 : Fin 9) t
    | ⟨7, _⟩ => iblk a W c (7 : Fin 9) t
    | ⟨8, _⟩ => fun _ => Classical.arbitrary _
  Φ _ := Phi a c
  q _ := fullShare
  owed _ := 0

/-- One step of the output block at point `t`. -/
def step (c : Dev nD) (t : Fin (cfg1 a).N) (Y : Vec F S2048x768 .f32) : Vec F S2048x768 .f32 :=
  next (grid1.coords t) (word (grid1.coords t) (a.1 0)) (iblk a W c 0 t) (iblk a W c 1 t) (iblk a W c 2 t) (iblk a W c 3 t) (iblk a W c 4 t) (iblk a W c 5 t) (iblk a W c 6 t) (iblk a W c 7 t) Y

/-- Which windows the relation is given for by hand: the output's. -/
def ovr (c : Dev nD) : (w : Fin (cfg1 a).W) → Option (Fin (cfg1 a).N → (Y X : ((cfg1 a).win w).block.Idx → Elt F ((cfg1 a).win w).elt) → Prop)
  | ⟨8, _⟩ => some fun t Y X => X = step a W c t Y
  | _ => none

/-- The region's proof data: the inputs' blocks stay and the output takes one step. -/
def rdat (c : Dev nD) : RDat τ (Elt F) Unit ℕ (UR sig nD τ) ℕ (cfg1 a) c := (dat a W c).toR.override (ovr a W c)

theorem before0 (c : Dev nD) (t : Fin (cfg1 a).N) (d) : (dat a W c).before (0 : Fin 9) t d = iblk a W c (0 : Fin 9) t :=
  ((dat a W c).before_in_eq_fetched (0 : Fin 9) rfl (fun _ => rfl) (fun _ _ _ => rfl) (fun t => by rw [show (dat a W c).after (0 : Fin 9) t = iblk a W c (0 : Fin 9) t from rfl]; unfold Dat.blockOf iblk; rfl) t d).trans
    (by unfold Dat.fetched Dat.blockOf iblk; rfl)
theorem before1 (c : Dev nD) (t : Fin (cfg1 a).N) (d) : (dat a W c).before (1 : Fin 9) t d = iblk a W c (1 : Fin 9) t :=
  ((dat a W c).before_in_eq_fetched (1 : Fin 9) rfl (fun _ => rfl) (fun _ _ _ => rfl) (fun t => by rw [show (dat a W c).after (1 : Fin 9) t = iblk a W c (1 : Fin 9) t from rfl]; unfold Dat.blockOf iblk; rfl) t d).trans
    (by unfold Dat.fetched Dat.blockOf iblk; rfl)
theorem before2 (c : Dev nD) (t : Fin (cfg1 a).N) (d) : (dat a W c).before (2 : Fin 9) t d = iblk a W c (2 : Fin 9) t :=
  ((dat a W c).before_in_eq_fetched (2 : Fin 9) rfl (fun _ => rfl) (fun _ _ _ => rfl) (fun t => by rw [show (dat a W c).after (2 : Fin 9) t = iblk a W c (2 : Fin 9) t from rfl]; unfold Dat.blockOf iblk; rfl) t d).trans
    (by unfold Dat.fetched Dat.blockOf iblk; rfl)
theorem before3 (c : Dev nD) (t : Fin (cfg1 a).N) (d) : (dat a W c).before (3 : Fin 9) t d = iblk a W c (3 : Fin 9) t :=
  ((dat a W c).before_in_eq_fetched (3 : Fin 9) rfl (fun _ => rfl) (fun _ _ _ => rfl) (fun t => by rw [show (dat a W c).after (3 : Fin 9) t = iblk a W c (3 : Fin 9) t from rfl]; unfold Dat.blockOf iblk; rfl) t d).trans
    (by unfold Dat.fetched Dat.blockOf iblk; rfl)
theorem before4 (c : Dev nD) (t : Fin (cfg1 a).N) (d) : (dat a W c).before (4 : Fin 9) t d = iblk a W c (4 : Fin 9) t :=
  ((dat a W c).before_in_eq_fetched (4 : Fin 9) rfl (fun _ => rfl) (fun _ _ _ => rfl) (fun t => by rw [show (dat a W c).after (4 : Fin 9) t = iblk a W c (4 : Fin 9) t from rfl]; unfold Dat.blockOf iblk; rfl) t d).trans
    (by unfold Dat.fetched Dat.blockOf iblk; rfl)
theorem before5 (c : Dev nD) (t : Fin (cfg1 a).N) (d) : (dat a W c).before (5 : Fin 9) t d = iblk a W c (5 : Fin 9) t :=
  ((dat a W c).before_in_eq_fetched (5 : Fin 9) rfl (fun _ => rfl) (fun _ _ _ => rfl) (fun t => by rw [show (dat a W c).after (5 : Fin 9) t = iblk a W c (5 : Fin 9) t from rfl]; unfold Dat.blockOf iblk; rfl) t d).trans
    (by unfold Dat.fetched Dat.blockOf iblk; rfl)
theorem before6 (c : Dev nD) (t : Fin (cfg1 a).N) (d) : (dat a W c).before (6 : Fin 9) t d = iblk a W c (6 : Fin 9) t :=
  ((dat a W c).before_in_eq_fetched (6 : Fin 9) rfl (fun _ => rfl) (fun _ _ _ => rfl) (fun t => by rw [show (dat a W c).after (6 : Fin 9) t = iblk a W c (6 : Fin 9) t from rfl]; unfold Dat.blockOf iblk; rfl) t d).trans
    (by unfold Dat.fetched Dat.blockOf iblk; rfl)
theorem before7 (c : Dev nD) (t : Fin (cfg1 a).N) (d) : (dat a W c).before (7 : Fin 9) t d = iblk a W c (7 : Fin 9) t :=
  ((dat a W c).before_in_eq_fetched (7 : Fin 9) rfl (fun _ => rfl) (fun _ _ _ => rfl) (fun t => by rw [show (dat a W c).after (7 : Fin 9) t = iblk a W c (7 : Fin 9) t from rfl]; unfold Dat.blockOf iblk; rfl) t d).trans
    (by unfold Dat.fetched Dat.blockOf iblk; rfl)

/-- What an input's buffer holds is what it may be left at. -/
theorem leaves_live (c : Dev nD) (w : Fin (cfg1 a).W) (t : Fin (cfg1 a).N) (h : (cfg1 a).idle w ((cfg1 a).grid.coords t) = false) :
    (dat a W c).Leaves w t ((dat a W c).after w t) := by
  unfold Dat.Leaves; rw [h]

/-- The body that the pipeline calls at point `t`. -/
theorem defs₀_row (t : Fin (cfg1 a).N) :
    defs₀ (F := F) .tc (cfg1 a).body ((cfg1 a).bodyArgs t ((cfg1 a).slots t)) = cc1__gmm_kernel (grid1.coords t) tb (Memref.isWhole_whole _) (spec1_0.stage ((cfg1 a).slots t (0 : Fin 9))) (hstage1_0 (((cfg1 a).slots t (0 : Fin 9)).cast nbuf1_0)) (spec1_1.stage ((cfg1 a).slots t (1 : Fin 9))) (hstage1_1 (((cfg1 a).slots t (1 : Fin 9)).cast nbuf1_1)) (spec1_2.stage ((cfg1 a).slots t (2 : Fin 9))) (hstage1_2 (((cfg1 a).slots t (2 : Fin 9)).cast nbuf1_2)) (spec1_3.stage ((cfg1 a).slots t (3 : Fin 9))) (hstage1_3 (((cfg1 a).slots t (3 : Fin 9)).cast nbuf1_3)) (spec1_4.stage ((cfg1 a).slots t (4 : Fin 9))) (hstage1_4 (((cfg1 a).slots t (4 : Fin 9)).cast nbuf1_4)) (spec1_5.stage ((cfg1 a).slots t (5 : Fin 9))) (hstage1_5 (((cfg1 a).slots t (5 : Fin 9)).cast nbuf1_5)) (spec1_6.stage ((cfg1 a).slots t (6 : Fin 9))) (hstage1_6 (((cfg1 a).slots t (6 : Fin 9)).cast nbuf1_6)) (spec1_7.stage ((cfg1 a).slots t (7 : Fin 9))) (hstage1_7 (((cfg1 a).slots t (7 : Fin 9)).cast nbuf1_7)) (spec1_8.stage ((cfg1 a).slots t (8 : Fin 9))) (hstage1_8 (((cfg1 a).slots t (8 : Fin 9)).cast nbuf1_8)) := by
  unfold defs₀; rw [Defs.onTc_tc]

theorem prefHeld_eq (c : Dev nD) (q : Fin 1 → PosShare TreeShare) (v : pre1.Contents (Elt F)) :
    (Pipeline.prefHeld (Ix := Unit) (Name := ℕ) (U := UR sig nD τ) (Lvl := ℕ) pre1 c q v : sProp 𝕄)
      = iprop((tb.view.loc (c : Thread nD τ)) ↦{q 0} v 0) := by
  unfold Pipeline.prefHeld
  rw [show (Finset.univ : Finset (Fin 1)) = {(0 : Fin 1)} from by decide, bigSep_singleton]
  rfl

set_option maxHeartbeats 4000000 in
/-- The body obligation at every point. -/
theorem body_obligation (c : Dev nD) : (rdat a W c).BodyObligation (defs₀ (F := F)) Variants.none () Set.univ := by
  intro t Y hY
  have h0 : Y (0 : Fin 9) = iblk a W c (0 : Fin 9) t := by
    obtain ⟨d, hd⟩ := (dat a W c).toR_finds (0 : Fin 9) t _ (((dat a W c).toR.override_finds rfl t _).mp (hY (0 : Fin 9)))
    exact hd.trans (before0 a W c t d)
  have h1 : Y (1 : Fin 9) = iblk a W c (1 : Fin 9) t := by
    obtain ⟨d, hd⟩ := (dat a W c).toR_finds (1 : Fin 9) t _ (((dat a W c).toR.override_finds rfl t _).mp (hY (1 : Fin 9)))
    exact hd.trans (before1 a W c t d)
  have h2 : Y (2 : Fin 9) = iblk a W c (2 : Fin 9) t := by
    obtain ⟨d, hd⟩ := (dat a W c).toR_finds (2 : Fin 9) t _ (((dat a W c).toR.override_finds rfl t _).mp (hY (2 : Fin 9)))
    exact hd.trans (before2 a W c t d)
  have h3 : Y (3 : Fin 9) = iblk a W c (3 : Fin 9) t := by
    obtain ⟨d, hd⟩ := (dat a W c).toR_finds (3 : Fin 9) t _ (((dat a W c).toR.override_finds rfl t _).mp (hY (3 : Fin 9)))
    exact hd.trans (before3 a W c t d)
  have h4 : Y (4 : Fin 9) = iblk a W c (4 : Fin 9) t := by
    obtain ⟨d, hd⟩ := (dat a W c).toR_finds (4 : Fin 9) t _ (((dat a W c).toR.override_finds rfl t _).mp (hY (4 : Fin 9)))
    exact hd.trans (before4 a W c t d)
  have h5 : Y (5 : Fin 9) = iblk a W c (5 : Fin 9) t := by
    obtain ⟨d, hd⟩ := (dat a W c).toR_finds (5 : Fin 9) t _ (((dat a W c).toR.override_finds rfl t _).mp (hY (5 : Fin 9)))
    exact hd.trans (before5 a W c t d)
  have h6 : Y (6 : Fin 9) = iblk a W c (6 : Fin 9) t := by
    obtain ⟨d, hd⟩ := (dat a W c).toR_finds (6 : Fin 9) t _ (((dat a W c).toR.override_finds rfl t _).mp (hY (6 : Fin 9)))
    exact hd.trans (before6 a W c t d)
  have h7 : Y (7 : Fin 9) = iblk a W c (7 : Fin 9) t := by
    obtain ⟨d, hd⟩ := (dat a W c).toR_finds (7 : Fin 9) t _ (((dat a W c).toR.override_finds rfl t _).mp (hY (7 : Fin 9)))
    exact hd.trans (before7 a W c t d)
  have l0 : (rdat a W c).after (0 : Fin 9) t (iblk a W c (0 : Fin 9) t) (iblk a W c (0 : Fin 9) t) := by
    show (dat a W c).Leaves (0 : Fin 9) t _
    exact leaves_live a W c (0 : Fin 9) t rfl
  have l1 : (rdat a W c).after (1 : Fin 9) t (iblk a W c (1 : Fin 9) t) (iblk a W c (1 : Fin 9) t) := by
    show (dat a W c).Leaves (1 : Fin 9) t _
    exact leaves_live a W c (1 : Fin 9) t rfl
  have l2 : (rdat a W c).after (2 : Fin 9) t (iblk a W c (2 : Fin 9) t) (iblk a W c (2 : Fin 9) t) := by
    show (dat a W c).Leaves (2 : Fin 9) t _
    exact leaves_live a W c (2 : Fin 9) t rfl
  have l3 : (rdat a W c).after (3 : Fin 9) t (iblk a W c (3 : Fin 9) t) (iblk a W c (3 : Fin 9) t) := by
    show (dat a W c).Leaves (3 : Fin 9) t _
    exact leaves_live a W c (3 : Fin 9) t rfl
  have l4 : (rdat a W c).after (4 : Fin 9) t (iblk a W c (4 : Fin 9) t) (iblk a W c (4 : Fin 9) t) := by
    show (dat a W c).Leaves (4 : Fin 9) t _
    exact leaves_live a W c (4 : Fin 9) t rfl
  have l5 : (rdat a W c).after (5 : Fin 9) t (iblk a W c (5 : Fin 9) t) (iblk a W c (5 : Fin 9) t) := by
    show (dat a W c).Leaves (5 : Fin 9) t _
    exact leaves_live a W c (5 : Fin 9) t rfl
  have l6 : (rdat a W c).after (6 : Fin 9) t (iblk a W c (6 : Fin 9) t) (iblk a W c (6 : Fin 9) t) := by
    show (dat a W c).Leaves (6 : Fin 9) t _
    exact leaves_live a W c (6 : Fin 9) t rfl
  have l7 : (rdat a W c).after (7 : Fin 9) t (iblk a W c (7 : Fin 9) t) (iblk a W c (7 : Fin 9) t) := by
    show (dat a W c).Leaves (7 : Fin 9) t _
    exact leaves_live a W c (7 : Fin 9) t rfl
  have l8 : (rdat a W c).after (8 : Fin 9) t (Y (8 : Fin 9)) (step a W c t (Y (8 : Fin 9))) := rfl
  rw [bigSep_W1, bigSep_W1, defs₀_row]
  rw [show (rdat a W c).Φ t.succ = Phi a c from rfl, show (rdat a W c).Φ t.castSucc = Phi a c from rfl,
    show (rdat a W c).owesAt () t.succ = (rdat a W c).owesAt () t.castSucc from rfl,
    h0, h1, h2, h3, h4, h5, h6, h7]
  unfold Phi
  rw [prefHeld_eq]
  iintro ⟨⟨HΦ, HT⟩, Ho, H0, H1, H2, H3, H4, H5, H6, H7, H8⟩
  iapply (sound_kernel c Set.univ _ _ _ _ _ _ _ _ _ _ _ _ _ _ _ _ _ _ _ (a.1 0) (iblk a W c (0 : Fin 9) t) (iblk a W c (1 : Fin 9) t) (iblk a W c (2 : Fin 9) t) (iblk a W c (3 : Fin 9) t) (iblk a W c (4 : Fin 9) t) (iblk a W c (5 : Fin 9) t) (iblk a W c (6 : Fin 9) t) (iblk a W c (7 : Fin 9) t) (Y (8 : Fin 9)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT]; · iexact HT
  isplitl [H8]; · iexact H8
  iintro ⟨H0, H1, H2, H3, H4, H5, H6, H7, HT, H8⟩
  isplitl [HΦ HT]
  · isplitl [HΦ]; · iexact HΦ
    iexact HT
  isplitl [Ho]; · iexact Ho
  isplitl [H0]
  · iexists _; isplitr
    · ipureintro; exact l0
    iexact H0
  isplitl [H1]
  · iexists _; isplitr
    · ipureintro; exact l1
    iexact H1
  isplitl [H2]
  · iexists _; isplitr
    · ipureintro; exact l2
    iexact H2
  isplitl [H3]
  · iexists _; isplitr
    · ipureintro; exact l3
    iexact H3
  isplitl [H4]
  · iexists _; isplitr
    · ipureintro; exact l4
    iexact H4
  isplitl [H5]
  · iexists _; isplitr
    · ipureintro; exact l5
    iexact H5
  isplitl [H6]
  · iexists _; isplitr
    · ipureintro; exact l6
    iexact H6
  isplitl [H7]
  · iexists _; isplitr
    · ipureintro; exact l7
    iexact H7
  iexists _; isplitr; · ipureintro; exact l8
  iexact H8

/-! ## The output array at the end -/

/-- The output block after the first `n` points, from `Y₀`. -/
def traj (c : Dev nD) (Y₀ : Vec F S2048x768 .f32) : ℕ → Vec F S2048x768 .f32
  | 0 => Y₀
  | n + 1 => if h : n < (cfg1 a).N then step a W c ⟨n, h⟩ (traj c Y₀ n) else traj c Y₀ n

theorem flush8 (t : Fin (cfg1 a).N) : ((cfg1 a).win (8 : Fin 9)).flush t = decide (t.val + 1 = 16) := by
  unfold Window.flush
  refine (congrArg (fun b => true && (decide (t.val + 1 = grid1.N) || b)) (decide_eq_false (fun ⟨_, h⟩ => h rfl))).trans ?_
  rw [Bool.true_and, Bool.or_false]
  exact decide_eq_decide.mpr (by rw [N_1])

theorem fetch8 (t : Fin (cfg1 a).N) : ((cfg1 a).win (8 : Fin 9)).fetch t = false := rfl

/-- What may be left in the output's buffer at a point is the steps up to it, from some contents. -/
theorem leaves8 (c : Dev nD) : ∀ (n : ℕ) (h : n < (cfg1 a).N) (X : Vec F S2048x768 .f32), (rdat a W c).Leaves (8 : Fin 9) ⟨n, h⟩ X →
    ∃ Y₀, X = traj a W c Y₀ (n + 1)
  | 0, h, X, ⟨Y, _, hX⟩ => ⟨Y, by rw [traj, dif_pos h]; exact hX⟩
  | n + 1, h, X, ⟨Y, hY, hX⟩ => by
    have hf := ((rdat a W c).finds_of_pos (fetch8 a ⟨n + 1, h⟩) (Nat.succ_ne_zero n) Y).mp hY
    have hn : n + 1 < 16 := N_1 ▸ h
    rcases hf with hf | hf
    · have := (flush8 a _).symm.trans hf
      simp only [Nat.add_sub_cancel, decide_eq_true_eq] at this
      omega
    · obtain ⟨Y₀, hY₀⟩ := leaves8 c n (Nat.lt_of_succ_lt h) Y hf
      exact ⟨Y₀, by rw [traj, dif_pos h, ← hY₀]; exact hX⟩

theorem whole8 : ((cfg1 a).win (8 : Fin 9)).WholeAt (⟨15, by rw [show (cfg1 a).N = 16 from N_1]; decide⟩ : Fin (cfg1 a).N) := by
  refine ⟨by rw [flush8]; rfl, fun t h => ?_, fun x => ⟨?_, ?_⟩⟩
  · rw [flush8, decide_eq_true_eq] at h
    exact Fin.ext (by show t.val = 15; omega)
  · fin_cases x <;> rfl
  · fin_cases x <;> rfl

/-- The output array at the end: the sixteen steps, from some contents. -/
theorem arr8 (c : Dev nD) (G) (hG : (rdat a W c).ArrAt (8 : Fin 9) (cfg1 a).N G) : ∃ Y₀, G = traj a W c Y₀ 16 := by
  obtain ⟨X, hX, hj⟩ := RDat.ArrAt.emb_eq_of_wholeAt hG (whole8 a)
  obtain ⟨Y₀, h0⟩ := leaves8 a W c 15 _ X hX
  refine ⟨Y₀, funext fun j => ?_⟩
  exact (hj j).trans (congrFun h0 j)

/-- An input array at the end: as it was. -/
theorem arrIn (c : Dev nD) (w : Fin (cfg1 a).W) (hw : ((cfg1 a).win w).isOut = false) (G) (hG : (rdat a W c).ArrAt w (cfg1 a).N G) :
    G = W c (Proc.devRef .tc (Pipeline.arrRef spec1 w)) := by
  rw [(rdat a W c).ArrAt_in w hw] at hG; exact hG

end Cert.KernelIdeal.Gmm

end
-- ==== Proof.KernelIdeal.Vals.lean ====
/- The buffers' contents between the items of @main: before and after the router call, and at the grouped product call. -/
module

public import proofs.«01_k».proof.Proof.Gen.KernelIdeal.Regions
public import proofs.«01_k».proof.Proof.KernelIdeal.Router
public import proofs.«01_k».proof.Proof.KernelIdeal.Region1
public import Idealize.ShloMosaic.Lib.Pipeline.FrameTail
public import Idealize.ShloMosaic.Lib.Pipeline.ValueKit.Geometry
public import Idealize.ShloMosaic.Lib.WordSum

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UR sig nD τ) ℕ

variable (m : (ℓ : Loc nD τ sig) → Buf (Elt F) ℓ)

/-- The buffers as the router call finds them. -/
def W1 (c : Dev nD) : Valuation τ sig (Elt F) := V1 m c
/-- The buffers as the router call leaves them. -/
def W2 (c : Dev nD) : Valuation τ sig (Elt F) := Pipeline.afterRegion (Router.dat (W1 m) c) (W1 m c)
/-- The buffers as the grouped product call finds them. -/
def W3 (c : Dev nD) : Valuation τ sig (Elt F) := StableHlo.after hostOps1 (W2 m c)
/-- The buffers as the grouped product call leaves them, its result being `v`. -/
def W4 (c : Dev nD) (v : Vec F S2048x768 .f32) : Valuation τ sig (Elt F) := Function.update (W3 m c) main_v12 v
/-- The buffers at the end. -/
def W5 (c : Dev nD) (v : Vec F S2048x768 .f32) : Valuation τ sig (Elt F) := StableHlo.after hostOps2 (W4 m c v)

/-! ## What the router call leaves in its results -/

theorem whole0_4 : (cfg0.win (4 : Fin 9)).WholeAt t0_0 := by decide +kernel
theorem whole0_5 : (cfg0.win (5 : Fin 9)).WholeAt t0_0 := by decide +kernel
theorem whole0_6 : (cfg0.win (6 : Fin 9)).WholeAt t0_0 := by decide +kernel
theorem whole0_7 : (cfg0.win (7 : Fin 9)).WholeAt t0_0 := by decide +kernel
theorem whole0_8 : (cfg0.win (8 : Fin 9)).WholeAt t0_0 := by decide +kernel

variable (c : Dev nD)

/-- The router call's operands. -/
def rx : Vec F S2048x768 .f32 := W1 m c main_v0
def rsc : Vec F S1x768 .f32 := W1 m c main_v1
def rw_ : Vec F S768x8 .f32 := W1 m c main_arg3
def rps : Vec F S1x8 .f32 := W1 m c main_v2

theorem iblk0 : Router.iblk (W1 m) c 0 t0_0 = rx m c := by
  funext j; exact congrArg (W1 m c main_v0) (funext fun x => Fin.ext ((cfg0.win (0 : Fin 9)).rect_emb_val_of_index_zero t0_0 x (by fin_cases x <;> rfl) j))
theorem iblk1 : Router.iblk (W1 m) c 1 t0_0 = rsc m c := by
  funext j; exact congrArg (W1 m c main_v1) (funext fun x => Fin.ext ((cfg0.win (1 : Fin 9)).rect_emb_val_of_index_zero t0_0 x (by fin_cases x <;> rfl) j))
theorem iblk2 : Router.iblk (W1 m) c 2 t0_0 = rw_ m c := by
  funext j; exact congrArg (W1 m c main_arg3) (funext fun x => Fin.ext ((cfg0.win (2 : Fin 9)).rect_emb_val_of_index_zero t0_0 x (by fin_cases x <;> rfl) j))
theorem iblk3 : Router.iblk (W1 m) c 3 t0_0 = rps m c := by
  funext j; exact congrArg (W1 m c main_v2) (funext fun x => Fin.ext ((cfg0.win (3 : Fin 9)).rect_emb_val_of_index_zero t0_0 x (by fin_cases x <;> rfl) j))

theorem W2_cw1 : W2 m c main_v3_0 = Router.out0_4 (rx m c) (rsc m c) (rw_ m c) (rps m c) := by
  refine (Pipeline.afterRegion_arr (Router.dat (W1 m) c) (W1 m c) (launch0 (F := F)).win.arr_inj (4 : Fin 9)).trans ?_
  refine (Router.dat (W1 m) c).arrAt_eq_of_after_last (4 : Fin 9) t0_0 whole0_4 _ (fun j => ?_)
  rw [Router.after0_4, iblk0, iblk1, iblk2, iblk3]
  generalize Router.out0_4 (rx m c) (rsc m c) (rw_ m c) (rps m c) = X
  rfl
theorem W2_cw2 : W2 m c main_v3_1 = Router.out0_5 (rx m c) (rsc m c) (rw_ m c) (rps m c) := by
  refine (Pipeline.afterRegion_arr (Router.dat (W1 m) c) (W1 m c) (launch0 (F := F)).win.arr_inj (5 : Fin 9)).trans ?_
  refine (Router.dat (W1 m) c).arrAt_eq_of_after_last (5 : Fin 9) t0_0 whole0_5 _ (fun j => ?_)
  rw [Router.after0_5, iblk0, iblk1, iblk2, iblk3]
  generalize Router.out0_5 (rx m c) (rsc m c) (rw_ m c) (rps m c) = X
  rfl
theorem W2_r1 : W2 m c main_v3_2 = Router.out0_6 (rx m c) (rsc m c) (rw_ m c) (rps m c) := by
  refine (Pipeline.afterRegion_arr (Router.dat (W1 m) c) (W1 m c) (launch0 (F := F)).win.arr_inj (6 : Fin 9)).trans ?_
  refine (Router.dat (W1 m) c).arrAt_eq_of_after_last (6 : Fin 9) t0_0 whole0_6 _ (fun j => ?_)
  rw [Router.after0_6, iblk0, iblk1, iblk2, iblk3]
  generalize Router.out0_6 (rx m c) (rsc m c) (rw_ m c) (rps m c) = X
  rfl
theorem W2_r2 : W2 m c main_v3_3 = Router.out0_7 (rx m c) (rsc m c) (rw_ m c) (rps m c) := by
  refine (Pipeline.afterRegion_arr (Router.dat (W1 m) c) (W1 m c) (launch0 (F := F)).win.arr_inj (7 : Fin 9)).trans ?_
  refine (Router.dat (W1 m) c).arrAt_eq_of_after_last (7 : Fin 9) t0_0 whole0_7 _ (fun j => ?_)
  rw [Router.after0_7, iblk0, iblk1, iblk2, iblk3]
  generalize Router.out0_7 (rx m c) (rsc m c) (rw_ m c) (rps m c) = X
  rfl
theorem W2_be : W2 m c main_v3_4 = Router.out0_8 (rx m c) (rsc m c) (rw_ m c) (rps m c) := by
  refine (Pipeline.afterRegion_arr (Router.dat (W1 m) c) (W1 m c) (launch0 (F := F)).win.arr_inj (8 : Fin 9)).trans ?_
  refine (Router.dat (W1 m) c).arrAt_eq_of_after_last (8 : Fin 9) t0_0 whole0_8 _ (fun j => ?_)
  rw [Router.after0_8, iblk0, iblk1, iblk2, iblk3]
  generalize Router.out0_8 (rx m c) (rsc m c) (rw_ m c) (rps m c) = X
  rfl

/-- A buffer that is not one of the router call's arrays keeps its contents. -/
theorem W2_of (r : Ref sig .tc) (h : ∀ w, r ≠ Pipeline.arrRef spec0 w) : W2 m c r = W1 m c r :=
  Pipeline.afterRegion_of_not_arr _ _ h
/-- And so does an operand. -/
theorem W2_in (w : Fin 9) (hw : (cfg0.win w).isOut = false) :
    W2 m c (Proc.devRef .tc (Pipeline.arrRef spec0 w)) = W1 m c (Proc.devRef .tc (Pipeline.arrRef spec0 w)) :=
  (Pipeline.afterRegion_arr (Router.dat (W1 m) c) (W1 m c) (launch0 (F := F)).win.arr_inj w).trans
    (((Router.dat (W1 m) c).arrAt_in w hw _).trans (Router.A_eq (W1 m) c w))

end Cert.KernelIdeal.Run

end
-- ==== Proof.KernelIdeal.Table.lean ====
/- The table of experts that the grouped product call reads: its words are small, so the call's side condition holds. -/
module

public import proofs.«01_k».proof.Proof.Gen.KernelIdeal.Regions
public import proofs.«01_k».proof.Proof.KernelIdeal.Router
public import proofs.«01_k».proof.Proof.KernelIdeal.Region1
public import proofs.«01_k».proof.Proof.KernelIdeal.Vals
public import Idealize.ShloMosaic.Lib.Pipeline.FrameTail
public import Idealize.ShloMosaic.Lib.Pipeline.ValueKit.Geometry
public import Idealize.ShloMosaic.Lib.WordSum

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UR sig nD τ) ℕ

variable (m : (ℓ : Loc nD τ sig) → Buf (Elt F) ℓ) (c : Dev nD)

/-! ## The table of experts -/

/-- The block owners as the router call leaves them, one row. -/
theorem out0_8_eq (x0 : Vec F S2048x768 .f32) (x1 x2 x3) : Router.out0_8 (F := F) x0 x1 x2 x3 = k0_pay4 (Router.ends x0 x1 x2) :=
  View.canon_cons_unit_lit _ _ _ (by decide)

/-- A count of at most eight bits is a small number. -/
theorem pay4_lt (v : FVec F S1x8 .f32) (j : S32x1.Idx) : (k0_pay4 v j).toNat < 2 ^ 31 := by
  unfold k0_pay4
  show ((multiReductionI .add [1] S32 _ 0#32 reduces_S32x8_S32 rfl) _).toNat < _
  have hb : ∀ i : S32x8.Idx, ((extui 32 (cmpf .ole (broadcastTo S32x8 v broadcasts_S1x8_S32x8) (broadcastTo S32x8 (sitofp (F := F) .f32 (muli (iota .tc S32x1 32 [0] iota_S32x1_d0_w32) (broadcast S32x1 512#32))) broadcasts_S32x1_S32x8)) natLt_1_32) i).toNat ≤ 1 := by
    intro i
    show (BitVec.setWidth 32 (_ : BitVec 1)).toNat ≤ 1
    rw [BitVec.toNat_setWidth]
    exact (Nat.mod_le _ _).trans (Nat.le_of_lt_succ (BitVec.isLt _))
  have hs : ∀ S : Finset S32x8.Idx, ∑ i ∈ S, ((extui 32 (cmpf .ole (broadcastTo S32x8 v broadcasts_S1x8_S32x8) (broadcastTo S32x8 (sitofp (F := F) .f32 (muli (iota .tc S32x1 32 [0] iota_S32x1_d0_w32) (broadcast S32x1 512#32))) broadcasts_S32x1_S32x8)) natLt_1_32) i).toNat ≤ 256 := by
    intro S
    refine (Finset.sum_le_card_nsmul S _ 1 (fun i _ => hb i)).trans ?_
    rw [smul_eq_mul, mul_one]
    refine (Finset.card_le_univ S).trans ?_
    rw [Shape.card_idx]; decide
  exact (WordSum.toNat_multiReductionI_add _ reduces_S32x8_S32 rfl _ ((hs _).trans_lt (by decide))).trans_lt ((hs _).trans_lt (by decide))

/-- A word below `2 ^ 31` and seven: the smaller is at most seven. -/
theorem minsi_le (v : BitVec 32) (h : v.toNat < 2 ^ 31) : (Scalar.minsi v 7#32).toNat = min v.toNat 7 := by
  unfold Scalar.minsi IntOp.minsi
  have h7 : (7#32).toInt = 7 := by decide
  have hv : v.toInt = v.toNat := BitVec.toInt_eq_toNat_of_lt (by omega)
  by_cases hc : v.slt 7#32
  · rw [if_pos hc]
    rw [BitVec.slt_iff_toInt_lt, h7, hv] at hc
    omega
  · rw [if_neg hc]
    rw [BitVec.slt_iff_toInt_lt, h7, hv] at hc
    show 7 = _
    omega

theorem block_in (k : ℕ) (h : k ≤ 7) (a : Fin 3) : ((![k, (0#32 : BitVec 32).toNat, (0#32 : BitVec 32).toNat] : Fin 3 → ℕ) a + 1) * S1x2048x768.size a ≤ S8x2048x768.size a := by
  fin_cases a
  · show (k + 1) * 1 ≤ 8; omega
  · show ((0#32 : BitVec 32).toNat + 1) * 2048 ≤ 2048; decide
  · show ((0#32 : BitVec 32).toNat + 1) * 768 ≤ 768; decide

/-- The table's words being small, the side condition of the grouped product call holds. -/
theorem ok_of (pf : pre1.Contents (Elt F)) (h : ∀ j : S32.Idx, BitVec.toNat (pf 0 j) < 2 ^ 31) : ok1 pf := by
  refine ⟨fun i => ⟨fun a => block_in _ ((minsi_le _ (h _)).trans_le (min_le_right _ _)) a, .inr (Affine.block_words_dvd (of_decide_eq_true rfl) (by decide))⟩,
    fun i => ⟨fun a => block_in _ ((minsi_le _ (h _)).trans_le (min_le_right _ _)) a, .inr (Affine.block_words_dvd (of_decide_eq_true rfl) (by decide))⟩,
    fun i => ⟨fun a => block_in _ ((minsi_le _ (h _)).trans_le (min_le_right _ _)) a, .inr (Affine.block_words_dvd (of_decide_eq_true rfl) (by decide))⟩⟩

/-- The one core. -/
def core : Dev nD := ⟨0, by decide⟩
theorem eq_core (c : Dev nD) : c = core := Fin.ext (by have h : c.val < 1 := c.isLt; show c.val = 0; omega)

/-- The table is the row of block owners that the router call left. -/
theorem W3_be : W3 m c main_v11 = shapeCast S32 (k0_pay4 (Router.ends (rx m c) (rsc m c) (rw_ m c))) shapeCasts_S32x1_S32 := by
  have h : W3 m c main_v11 = shapeCast S32 (W2 m c main_v3_4 : Vec F S32x1 .i32) shapeCasts_S32x1_S32 := by
    unfold W3; after_results; rfl
  rw [h, W2_be, out0_8_eq]

/-- The table as the grouped product call finds it. -/
def table : pre1.Contents (Elt F) := fun k => W3 m core (Proc.devRef .tc (pre1.ref k))

theorem table_ok : ok1 (table m) :=
  ok_of _ fun j => by
    show BitVec.toNat ((W3 m core main_v11 : Vec F S32 .i32) j) < _
    rw [W3_be]
    exact pay4_lt _ _

/-- The tables of the two calls: the first has none. -/
def adm : (p : Fin 2) → (pcfgs (F := F) p).Adm
  | ⟨0, _⟩ => cfg0.toPCfg_adm
  | ⟨1, _⟩ => ⟨table m, table_ok m⟩

/-- The two calls' proof data. -/
def rdats : (p : Fin 2) → (c : Dev nD) → RDat τ (Elt F) Unit ℕ (UR sig nD τ) ℕ (Pipeline.pin (pcfgs (F := F)) (adm m) p) c
  | ⟨0, _⟩ => fun c => (Router.dat (W1 m) c).toR
  | ⟨1, _⟩ => fun c => Gmm.rdat (adm m 1) (W3 m) c

end Cert.KernelIdeal.Run

end
-- ==== Proof.KernelIdeal.Run.lean ====
/- The run of @main: the two calls as segments, and what the final state holds. -/
module

public import proofs.«01_k».proof.Proof.Gen.KernelIdeal.Regions
public import proofs.«01_k».proof.Proof.KernelIdeal.Router
public import proofs.«01_k».proof.Proof.KernelIdeal.Region1
public import proofs.«01_k».proof.Proof.KernelIdeal.Vals
public import proofs.«01_k».proof.Proof.KernelIdeal.Table
public import Idealize.ShloMosaic.Lib.Pipeline.Frame
public import Idealize.ShloMosaic.Lib.Pipeline.Regions
public import Idealize.ShloMosaic.Lib.Pipeline.RegionsOwned
public import Idealize.ShloMosaic.Lib.Pipeline.RegionArraysT
public import Idealize.ShloMosaic.Lib.Pipeline.FrameTail
public import Idealize.ShloMosaic.Lib.Pipeline.ValueKit.Geometry
public import Idealize.ShloMosaic.Lib.WordSum

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) 𝕄 := emb₁

/-- No cell is assigned a level; nothing is owed. -/
abbrev lev : GSem nD τ sig → Finset Unit := fun _ => ∅
abbrev lvl : GSem nD τ sig → Unit → ℕ := fun _ _ => 0

/-- What rides beside the buffers: the generator's register, and the core owing nothing. -/
def rest (c : Dev nD) : sProp 𝕄 := iprop((∃ r, prngReg c r) ∗ ∃ Wd, owes (c.tc : Thread nD τ) (0 : CellTallies nD τ sig Unit) Wd)

def seg0 : HostSeg (Ix := Unit) (Name := ℕ) (U := UR sig nD τ) (Lvl := ℕ) (pcfgs (F := F)) defs₀ Variants.none lev lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def seg2 : HostSeg (Ix := Unit) (Name := ℕ) (U := UR sig nD τ) (Lvl := ℕ) (pcfgs (F := F)) defs₀ Variants.none lev lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest
/-- The last stretch runs whatever the output's staging buffer held before the grouped product call. -/
def seg4 : HostSeg (Ix := Unit) (Name := ℕ) (U := UR sig nD τ) (Lvl := ℕ) (pcfgs (F := F)) defs₀ Variants.none lev lvl :=
  HostSeg.ofOpsEx (Γ := fun _ => Vec F S2048x768 .f32) _ _ _ _ _ (Pipeline.ucRefs τ sig) hostOps2
    (fun op h => Pipeline.sub_ucRefs op ((List.forall_iff_forall_mem.mp hostOps2_sub) op h))
    (fun op h => (List.forall_iff_forall_mem.mp hostOps2_fresh) op h)
    (fun c Y₀ => W4 m c (Gmm.traj (adm m 1) (W3 m) c Y₀ 16)) rest

/-- The two calls' exact proof data; of the grouped product call's output it says nothing. -/
def pdats : (p : Fin 2) → (c : Dev nD) → Dat τ (Elt F) Unit ℕ (UR sig nD τ) ℕ (Pipeline.pin (pcfgs (F := F)) (adm m) p) c
  | ⟨0, _⟩ => fun c => Router.dat (W1 m) c
  | ⟨1, _⟩ => fun c => Gmm.dat (adm m 1) (W3 m) c

/-- The router call's arrays as buffers held at a valuation. -/
theorem arrays0 (c : Dev nD) (G : (w : Fin 9) → Buf (Elt F) ((cfg0.win w).arr.view.loc (c.tc : Thread nD τ))) (Wc : Valuation τ sig (Elt F))
    (hG : ∀ w : Fin 9, G w = Wc (Proc.devRef .tc (Pipeline.arrRef spec0 w))) :
    ((Router.dat (W1 m) c).arrays G : sProp 𝕄) = StableHlo.held (c.tc : Thread nD τ) (Pipeline.arrRefs spec0) Wc :=
  Pipeline.arrays_held (pcfgs (F := F)) (adm m) (pdats m) (0 : Fin 2) launch0 c ((Router.dat (W1 m) c).share_full fun _ => rfl) G Wc hG

/-- The grouped product call's arrays likewise. -/
theorem arrays1 (c : Dev nD) (G : (w : Fin 9) → Buf (Elt F) (((cfg1 (adm m 1)).win w).arr.view.loc (c.tc : Thread nD τ))) (Wc : Valuation τ sig (Elt F))
    (hG : ∀ w : Fin 9, G w = Wc (Proc.devRef .tc (Pipeline.arrRef spec1 w))) :
    ((Gmm.dat (adm m 1) (W3 m) c).arrays G : sProp 𝕄) = StableHlo.held (c.tc : Thread nD τ) (Pipeline.arrRefs spec1) Wc :=
  Pipeline.arrays_held (pcfgs (F := F)) (adm m) (pdats m) (1 : Fin 2) launch1 c ((Gmm.dat (adm m 1) (W3 m) c).share_full fun _ => rfl) G Wc hG

theorem arr0_sub : Pipeline.arrRefs (τ := τ) spec0 ⊆ Pipeline.ucRefs τ sig := Pipeline.arrRefs_sub_ucRefs _ winFacts0.arr_unscoped
theorem arr1_sub : Pipeline.arrRefs (τ := τ) spec1 ⊆ Pipeline.ucRefs τ sig := Pipeline.arrRefs_sub_ucRefs _ winFacts1.arr_unscoped
theorem tbl1_sub : Pipeline.tblRefs (τ := τ) pre1 ⊆ Pipeline.ucRefs τ sig \ Pipeline.arrRefs spec1 :=
  Pipeline.tblRefs_sub_ucRefs_sdiff _ _ preFacts1.unscoped preFacts1.disj

theorem W2_off (c : Dev nD) (b : DevRef τ sig) (hb : b ∉ Pipeline.arrRefs (τ := τ) spec0) : W2 m c b = W1 m c b := by
  unfold W2 Pipeline.afterRegion
  rw [dif_neg]
  rintro ⟨w, hw⟩
  exact hb (hw ▸ Finset.mem_map.mpr ⟨_, Finset.mem_image.mpr ⟨w, Finset.mem_univ _, rfl⟩, rfl⟩)

theorem W4_off (c : Dev nD) (v) (b : DevRef τ sig) (hb : b ∉ Pipeline.arrRefs (τ := τ) spec1) : W4 m c v b = W3 m c b := by
  have h8 : (Proc.devRef .tc main_v12 : DevRef τ sig) ∈ Pipeline.arrRefs (τ := τ) spec1 :=
    Finset.mem_map.mpr ⟨_, Finset.mem_image.mpr ⟨(8 : Fin 9), Finset.mem_univ _, rfl⟩, rfl⟩
  exact Function.update_of_ne (fun hw => hb (by rw [hw]; exact h8)) _ _

/-- Every window of the grouped product call but the last is an input. -/
theorem in1 (a : (pcfg1 (F := F)).Adm) : ∀ w : Fin 9, w ≠ 8 → ((cfg1 a).win w).isOut = false
  | 0, _ => rfl | 1, _ => rfl | 2, _ => rfl | 3, _ => rfl | 4, _ => rfl | 5, _ => rfl | 6, _ => rfl | 7, _ => rfl
  | 8, h => absurd rfl h

theorem W4_arr (c : Dev nD) (v) (w : Fin 9) (hw : w ≠ 8) : W4 m c v (Proc.devRef .tc (Pipeline.arrRef spec1 w)) = W3 m c (Proc.devRef .tc (Pipeline.arrRef spec1 w)) :=
  Function.update_of_ne (fun h => hw ((launch1 (F := F)).win.arr_inj (Proc.devRef_injective _ h))) _ _

set_option backward.isDefEq.respectTransparency.types false in
/-- The router call. -/
def reg0 : Pipeline.RDat.RegionSeg (pcfgs (F := F)) (adm m) (rdats m) () defs₀ Variants.none lev lvl 0 where
  win := (launch0 (F := F)).win.to₀
  block_pos := (launch0 (F := F)).block_pos
  stage_whole := (launch0 (F := F)).stage_whole
  K := PEmpty
  osem := fun k => k.elim
  ho := Pipeline.OwnSemFacts.none _
  hbody c := ((Router.body_obligation (W1 m) c).loose).toR
  hwaits c := Pipeline.RDat.hwaits_of_owed_zero (pcfgs (F := F)) (adm m) (rdats m) () lev lvl 0 (fun _ _ => rfl) c
  pre c := iprop(StableHlo.held (c.tc : Thread nD τ) (Pipeline.ucRefs τ sig) (W1 m c) ∗ rest c)
  post c := iprop(StableHlo.held (c.tc : Thread nD τ) (Pipeline.ucRefs τ sig) (W2 m c) ∗ rest c)
  X c := iprop(∃ r, prngReg c r)
  Y c := iprop(∃ r, prngReg c r)
  Z c := StableHlo.held (c.tc : Thread nD τ) (Pipeline.ucRefs τ sig \ Pipeline.arrRefs spec0) (W1 m c)
  hentry c := by
    show _ ⊢ |={Set.univ}=> iprop((Router.dat (W1 m) c).arrays (Router.dat (W1 m) c).A ∗ _ ∗ _ ∗ _ ∗ _)
    rw [Pipeline.ownSems0_none, StableHlo.held_sub_split (c.tc : Thread nD τ) arr0_sub (W1 m c), arrays0 m c _ (W1 m c) (fun w => Router.A_eq (W1 m) c w)]
    unfold rest
    iintro ⟨⟨⟨Ha, Hrest⟩, Hp, HO⟩, -, -⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · icases HO with ⟨%Wd, HO⟩; iexists Wd; isplitr; · ipureintro; exact fun _ _ => Or.inl trivial
      iexact HO
    isplitl [Hp]; · iexact Hp
    iexact Hrest
  hin c := (show _ ⊢ Pipeline.ΦA spec0 c from by
    unfold Pipeline.ΦA; iintro ⟨Hp, -, Hr⟩
    isplitl [Hr] <;> iassumption)
  hout c := (show Pipeline.ΦA spec0 c ⊢ _ from by
    rw [Pipeline.ownSems0_none]; unfold Pipeline.ΦA
    iintro ⟨Hr, Hp⟩
    isplitl [Hp]; · iexact Hp
    isplitr; · iempintro
    iexact Hr)
  hexit c := by
    show iprop((Router.dat (W1 m) c).toR.arraysAt cfg0.N ∗ _ ∗ _ ∗ _) ⊢ _
    rw [(Router.dat (W1 m) c).toR_arraysAt_eq cfg0.N, arrays0 m c _ (W2 m c)
      (fun w => (Pipeline.afterRegion_arr (Router.dat (W1 m) c) (W1 m c) (launch0 (F := F)).win.arr_inj w).symm),
      StableHlo.held_sub_split (c.tc : Thread nD τ) arr0_sub (W2 m c),
      StableHlo.held_congr (c.tc : Thread nD τ) (V := W2 m c) (V' := W1 m c) (S := Pipeline.ucRefs τ sig \ Pipeline.arrRefs spec0)
        (fun b hb => W2_off m c b (Finset.mem_sdiff.mp hb).2)]
    unfold rest
    iintro ⟨Ha, HO, Hp, Hrest⟩
    imodintro
    isplitl [Ha Hrest]; · isplitl [Ha] <;> iassumption
    isplitl [Hp]; · iexact Hp
    icases HO with ⟨%Wd, -, HO⟩; iexists Wd; iexact HO

/-- Contents of the grouped product call's arrays that are the inputs' and `v` are those of the valuation after it. -/
theorem final_arr (c : Dev nD) (v : Vec F S2048x768 .f32) (A : (w : Fin 9) → Buf (Elt F) (((cfg1 (adm m 1)).win w).arr.view.loc (c.tc : Thread nD τ)))
    (h8 : A 8 = v) (hin : ∀ w : Fin 9, w ≠ 8 → A w = W3 m c (Proc.devRef .tc (Pipeline.arrRef spec1 w))) (w : Fin 9) :
    A w = W4 m c v (Proc.devRef .tc (Pipeline.arrRef spec1 w)) := by
  by_cases hw : w = 8
  · rw [hw]
    refine Eq.trans h8 ?_
    unfold W4
    exact (Function.update_self (Proc.devRef .tc main_v12 : DevRef τ sig) v (W3 m c)).symm
  · rw [W4_arr m c v w hw]
    exact hin w hw

theorem final1 (c : Dev nD) : ((Gmm.rdat (adm m 1) (W3 m) c).arraysAt (cfg1 (adm m 1)).N : sProp 𝕄)
    ⊢ iprop(∃ Y₀ : Vec F S2048x768 .f32, StableHlo.held (c.tc : Thread nD τ) (Pipeline.arrRefs spec1) (W4 m c (Gmm.traj (adm m 1) (W3 m) c Y₀ 16))) := by
  unfold RDat.arraysAt
  refine (BI.bigSep_exists_pi Finset.univ _).trans ?_
  iintro ⟨%A, H⟩
  ihave H' := (BI.bigSep_pure_sep Finset.univ (fun w => (Gmm.rdat (adm m 1) (W3 m) c).ArrAt w (cfg1 (adm m 1)).N (A w)) _) $$ H
  icases H' with ⟨%hA, H⟩
  obtain ⟨Y₀, h8⟩ := Gmm.arr8 (adm m 1) (W3 m) c _ (hA (8 : Fin 9) (Finset.mem_univ _))
  iexists Y₀
  have hAW := final_arr m c _ A h8 (fun w hw => Gmm.arrIn (adm m 1) (W3 m) c w (in1 _ w hw) _ (hA w (Finset.mem_univ _)))
  rw [← arrays1 m c A _ hAW]
  unfold Dat.arrays
  iexact H

set_option backward.isDefEq.respectTransparency.types false in
/-- The grouped product call: it leaves its output at the sixteen steps from whatever the staging buffer held. -/
def reg1 : Pipeline.RDat.RegionSeg (pcfgs (F := F)) (adm m) (rdats m) () defs₀ Variants.none lev lvl 1 where
  win := (launch1 (F := F)).win.to₀
  block_pos := (launch1 (F := F)).block_pos
  stage_whole := (launch1 (F := F)).stage_whole
  K := PEmpty
  osem := fun k => k.elim
  ho := Pipeline.OwnSemFacts.none _
  hbody c := Gmm.body_obligation (adm m 1) (W3 m) c
  hwaits c := Pipeline.RDat.hwaits_of_owed_zero (pcfgs (F := F)) (adm m) (rdats m) () lev lvl 1 (fun _ _ => rfl) c
  pre c := iprop(StableHlo.held (c.tc : Thread nD τ) (Pipeline.ucRefs τ sig) (W3 m c) ∗ rest c)
  post c := iprop((∃ Y₀ : Vec F S2048x768 .f32, StableHlo.held (c.tc : Thread nD τ) (Pipeline.ucRefs τ sig) (W4 m c (Gmm.traj (adm m 1) (W3 m) c Y₀ 16))) ∗ rest c)
  X c := iprop(∃ r, prngReg c r)
  Y c := iprop((∃ r, prngReg c r) ∗ StableHlo.held (c.tc : Thread nD τ) (Pipeline.tblRefs pre1) (W3 m c))
  Z c := StableHlo.held (c.tc : Thread nD τ) ((Pipeline.ucRefs τ sig \ Pipeline.arrRefs spec1) \ Pipeline.tblRefs pre1) (W3 m c)
  hentry c := by
    show _ ⊢ |={Set.univ}=> iprop((Gmm.dat (adm m 1) (W3 m) c).arrays (Gmm.dat (adm m 1) (W3 m) c).A ∗ Pipeline.prefHeld pre1 c (fun _ => fullShare) (table m) ∗ _ ∗ _ ∗ _)
    rw [Pipeline.ownSems0_none, StableHlo.held_sub_split (c.tc : Thread nD τ) arr1_sub (W3 m c),
      StableHlo.held_sub_split (c.tc : Thread nD τ) tbl1_sub (W3 m c), arrays1 m c (Gmm.dat (adm m 1) (W3 m) c).A (W3 m c) (fun w => rfl),
      Pipeline.prefHeld_held pre1 preFacts1.inj c (table m) (W3 m c) (fun k => by rw [eq_core c]; rfl)]
    unfold rest
    iintro ⟨⟨⟨Ha, HT, Hrest⟩, Hp, HO⟩, -, -⟩
    imodintro
    isplitl [Ha]; · iexact Ha
    isplitl [HT]; · iexact HT
    isplitl [HO]
    · icases HO with ⟨%Wd, HO⟩; iexists Wd; isplitr; · ipureintro; exact fun _ _ => Or.inl trivial
      iexact HO
    isplitl [Hp]; · iexact Hp
    iexact Hrest
  hin c := (show _ ⊢ iprop(Pipeline.ΦA spec1 c ∗ Pipeline.prefHeld pre1 c (fun _ => fullShare) (adm m 1).1) from by
    unfold Pipeline.ΦA; iintro ⟨Hp, HT, Hr⟩
    isplitl [Hr Hp]; · isplitl [Hr] <;> iassumption
    iexact HT)
  hout c := (show iprop(Pipeline.ΦA spec1 c ∗ Pipeline.prefHeld pre1 c (fun _ => fullShare) (table m)) ⊢ _ from by
    rw [Pipeline.ownSems0_none, Pipeline.prefHeld_held pre1 preFacts1.inj c (table m) (W3 m c) (fun k => by rw [eq_core c]; rfl)]; unfold Pipeline.ΦA
    iintro ⟨⟨Hr, Hp⟩, HT⟩
    isplitl [Hp HT]; · isplitl [Hp] <;> iassumption
    isplitr; · iempintro
    iexact Hr)
  hexit c := by
    show iprop((Gmm.rdat (adm m 1) (W3 m) c).arraysAt (cfg1 (adm m 1)).N ∗ _ ∗ _ ∗ _) ⊢ _
    unfold rest
    iintro ⟨Ha, HO, ⟨Hp, HT⟩, Hrest⟩
    ihave Ha := (final1 m c) $$ Ha
    icases Ha with ⟨%Y₀, Ha⟩
    imodintro
    isplitl [Ha HT Hrest]
    · iexists Y₀
      rw [StableHlo.held_sub_split (c.tc : Thread nD τ) arr1_sub (W4 m c _),
        StableHlo.held_congr (c.tc : Thread nD τ) (V := W4 m c _) (V' := W3 m c) (S := Pipeline.ucRefs τ sig \ Pipeline.arrRefs spec1)
          (fun b hb => W4_off m c _ b (Finset.mem_sdiff.mp hb).2),
        StableHlo.held_sub_split (c.tc : Thread nD τ) tbl1_sub (W3 m c)]
      isplitl [Ha]; · iexact Ha
      isplitl [HT] <;> iassumption
    isplitl [Hp]; · iexact Hp
    icases HO with ⟨%Wd, -, HO⟩; iexists Wd; iexact HO

/-! ## The run -/

/-- @main's items. -/
abbrev segs (c : Dev nD) : List (Pipeline.RDat.Seg (pcfgs (F := F)) (adm m) (rdats m) () defs₀ Variants.none lev lvl) :=
  [.host (seg0 m), .region (reg0 m), .host (seg2 m), .region (reg1 m), .host (seg4 m)]

/-- A buffer that no item writes ends as launched. -/
theorem W5_of (c : Dev nD) (v) (r : Ref sig .tc) (h5 : r ∉ hostOps2_W) (h4 : r ≠ main_v12) (h3 : r ∉ hostOps1_W)
    (h2 : W2 m c r = W1 m c r) (h1 : r ∉ hostOps0_W) : W5 m c v r = m ((c.tc : Thread nD τ).loc r) := by
  refine (StableHlo.after_of_writes_sub hostOps2 _ hostOps2_writes h5).trans ?_
  refine (Function.update_of_ne (fun h => h4 (Proc.devRef_injective _ h)) _ _).trans ?_
  refine (StableHlo.after_of_writes_sub hostOps1 _ hostOps1_writes h3).trans ?_
  exact h2.trans (StableHlo.after_of_writes_sub hostOps0 _ hostOps0_writes h1)

set_option backward.isDefEq.respectTransparency.types false in
set_option maxHeartbeats 1000000 in
/-- Every fair run of @main ends with the unscoped buffers at the last valuation, and every counter at zero. -/
theorem run_all : θ_run defs (onTc (τ := τ) (main (F := F))) ⟨m, fun _ => 0, ρ⟩ (fun r =>
    (∀ c : Dev nD, ∃ Y₀ : Vec F S2048x768 .f32, ∀ b ∈ Pipeline.ucRefs τ sig, r.2.mem ((c.tc : Thread nD τ).1, b) = W5 m c (Gmm.traj (adm m 1) (W3 m) c Y₀ 16) b)
      ∧ r.2.sem = fun _ => 0) := by
  refine Pipeline.RDat.θ_run_regions_kit_dev_sems (pcfgs (F := F)) (adm m) (rdats m) () (cellOf_inj (adm m)) EP defs₀ Variants.none lev lvl m ρ main
    (segs m)
    (fun c Q => by
      rewrite [main_chain c, Pipeline.RDat.Seg.run_eq_chain,
        show (segs m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.RDat.Seg.pipes_host, Pipeline.RDat.Seg.pipes_region, Pipeline.RDat.Seg.pipes_nil]; decide)
    (O₀ := 0) (hL := fun _ _ => rfl)
    (G := fun _ => iprop(emp)) (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄) ⊢ BI.own (EP (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ rest c))
    (Tₙ := fun c => iprop(∃ Y₀ : Vec F S2048x768 .f32, StableHlo.held (c.tc : Thread nD τ) (Pipeline.ucRefs τ sig) (W5 m c (Gmm.traj (adm m 1) (W3 m) c Y₀ 16))))
    (hch := fun c => ⟨.rfl, .rfl, .rfl, .rfl, .rfl, by
      refine sep_mono .rfl ?_
      unfold rest
      iintro ⟨-, H⟩; iexact H⟩)
    (hinit := by
      refine Pipeline.initEach lev lvl fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold rest
      iintro ⟨⟨Hh, -, HO, -, Hp, -⟩, -⟩
      imodintro
      isplitl [Hh]; · iexact Hh
      isplitl [Hp]; · iexists _; iexact Hp
      iexists _; iexact HO)
    (QY := fun c s => ∃ Y₀ : Vec F S2048x768 .f32, ∀ b ∈ Pipeline.ucRefs τ sig, s.mem ((c.tc : Thread nD τ).1, b) = W5 m c (Gmm.traj (adm m 1) (W3 m) c Y₀ 16) b)
    (hfin := fun c s' => by
      unfold StableHlo.held
      iintro ⟨⟨%Y₀, Hh⟩, HSI⟩
      ihave Hr := (pointsTo_read_all (Pipeline.ucRefs τ sig) (fun b => ((c.tc : Thread nD τ).1, b)) (W5 m c (Gmm.traj (adm m 1) (W3 m) c Y₀ 16)) s') $$ [Hh HSI]
      · isplitl [Hh] <;> iassumption
      icases Hr with ⟨%h, HSI⟩
      imodintro
      isplitr; · ipureintro; exact ⟨Y₀, h⟩
      iexact HSI)
    (hQ := fun _ h hz => ⟨h, funext fun g => hz g (.inr (regions_no_unscoped g.2))⟩)

end Cert.KernelIdeal.Run

end
-- ==== Proof.KernelIdeal.Frame.lean ====
/- The program leaves its six arguments as launched, and every counter at zero. -/
module

public import proofs.«01_k».proof.Defs
public import proofs.«01_k».proof.Proof.KernelIdeal.Run

@[expose] public section

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]

/-- The arguments keep their launch contents in the last valuation. -/
theorem W5_args (m : (ℓ : Loc nD τ sig) → Buf (Elt F) ℓ) (c : Dev nD) (v : Vec F S2048x768 .f32) :
    W5 m c v main_arg0 = m (c.tc.loc main_arg0) ∧ W5 m c v main_arg1 = m (c.tc.loc main_arg1)
      ∧ W5 m c v main_arg2 = m (c.tc.loc main_arg2) ∧ W5 m c v main_arg3 = m (c.tc.loc main_arg3)
      ∧ W5 m c v main_arg4 = m (c.tc.loc main_arg4) ∧ W5 m c v main_arg5 = m (c.tc.loc main_arg5) :=
  ⟨W5_of m c v main_arg0 (by decide) (by decide) (by decide) (W2_of m c main_arg0 (by decide)) (by decide),
    W5_of m c v main_arg1 (by decide) (by decide) (by decide) (W2_of m c main_arg1 (by decide)) (by decide),
    W5_of m c v main_arg2 (by decide) (by decide) (by decide) (W2_of m c main_arg2 (by decide)) (by decide),
    W5_of m c v main_arg3 (by decide) (by decide) (by decide) (W2_in m c (2 : Fin 9) rfl) (by decide),
    W5_of m c v main_arg4 (by decide) (by decide) (by decide) (W2_of m c main_arg4 (by decide)) (by decide),
    W5_of m c v main_arg5 (by decide) (by decide) (by decide) (W2_of m c main_arg5 (by decide)) (by decide)⟩

/-- Every fair run ends with the arguments as launched and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_all m g)
  obtain ⟨Y₀, hb⟩ := h.1 c
  have ha := W5_args m c (Gmm.traj (adm m 1) (W3 m) c Y₀ 16)
  exact ⟨(hb (Proc.devRef .tc main_arg0) (Pipeline.devRef_mem_ucRefs rfl)).trans ha.1,
    (hb (Proc.devRef .tc main_arg1) (Pipeline.devRef_mem_ucRefs rfl)).trans ha.2.1,
    (hb (Proc.devRef .tc main_arg2) (Pipeline.devRef_mem_ucRefs rfl)).trans ha.2.2.1,
    (hb (Proc.devRef .tc main_arg3) (Pipeline.devRef_mem_ucRefs rfl)).trans ha.2.2.2.1,
    (hb (Proc.devRef .tc main_arg4) (Pipeline.devRef_mem_ucRefs rfl)).trans ha.2.2.2.2.1,
    (hb (Proc.devRef .tc main_arg5) (Pipeline.devRef_mem_ucRefs rfl)).trans ha.2.2.2.2.2⟩

end Cert.KernelIdeal.Run

end
-- ==== Proof.Value.Routing.lean ====
module

public import Mathlib.Algebra.Order.BigOperators.Group.Finset
public import Mathlib.Algebra.BigOperators.Fin
public import Mathlib.Algebra.BigOperators.Ring.Finset
public import Mathlib.Data.Fintype.BigOperators

/-! # Where the chosen rows go

Each of 2048 rows chooses two of 8 experts. The rows of one expert get consecutive places; an expert's group of places starts at a
multiple of 512, and the groups follow one another. This module is about natural numbers only: no two choices share a place, every
place is below 8192, and the block of 512 places that a choice lies in belongs to the chosen expert. -/

@[expose] public section

namespace Cert.Routing

/-- Each row's first and second choice, which differ. -/
structure Choice where
  fst : Fin 2048 → Fin 8
  snd : Fin 2048 → Fin 8
  ne : ∀ t, fst t ≠ snd t

variable (q : Choice)

/-- 1 where the row chose the expert, 0 elsewhere. -/
def Choice.bit (t : Fin 2048) (e : Fin 8) : ℕ := (if e = q.fst t then 1 else 0) + (if e = q.snd t then 1 else 0)

/-- The same, for any row number. -/
def Choice.bitN (e : Fin 8) (n : ℕ) : ℕ := if h : n < 2048 then q.bit ⟨n, h⟩ e else 0

/-- How many rows chose the expert. -/
def Choice.count (e : Fin 8) : ℕ := ∑ t, q.bit t e

/-- How many places the expert's group takes. -/
def Choice.room (e : Fin 8) : ℕ := (q.count e + 511) / 512 * 512

/-- Where the expert's group ends. -/
def Choice.stop (e : Fin 8) : ℕ := ∑ e', if e' ≤ e then q.room e' else 0

/-- Where the expert's group starts. -/
def Choice.start (e : Fin 8) : ℕ := q.stop e - q.room e

/-- How many earlier rows chose the expert. -/
def Choice.rank (e : Fin 8) (n : ℕ) : ℕ := ∑ k ∈ Finset.range n, q.bitN e k

/-- The place of a row in an expert's group. -/
def Choice.place (t : Fin 2048) (e : Fin 8) : ℕ := q.start e + q.rank e t

/-- How many groups end at or before a place. -/
def Choice.owner (n : ℕ) : ℕ := ∑ e, if q.stop e ≤ n then 1 else 0

theorem bit_le (t : Fin 2048) (e : Fin 8) : q.bit t e ≤ 1 := by
  unfold Choice.bit
  have := q.ne t
  split_ifs with h1 h2 <;> first | omega | (exact absurd (h1.symm.trans h2) this)

theorem bit_fst (t : Fin 2048) : q.bit t (q.fst t) = 1 := by
  have h := bit_le q t (q.fst t)
  unfold Choice.bit at *
  rw [if_pos rfl] at *
  omega

theorem bit_snd (t : Fin 2048) : q.bit t (q.snd t) = 1 := by
  have h := bit_le q t (q.snd t)
  unfold Choice.bit at *
  rw [if_pos (rfl : q.snd t = q.snd t)] at *
  omega

theorem bitN_val (t : Fin 2048) (e : Fin 8) : q.bitN e t = q.bit t e := by
  unfold Choice.bitN
  rw [dif_pos t.isLt]

theorem count_total : ∑ e, q.count e = 4096 := by
  unfold Choice.count
  rw [Finset.sum_comm]
  have h : ∀ t, ∑ e, q.bit t e = 2 := fun t => by
    unfold Choice.bit
    rw [Finset.sum_add_distrib, Finset.sum_ite_eq' Finset.univ, Finset.sum_ite_eq' Finset.univ]
    simp
  rw [Finset.sum_congr rfl fun t _ => h t]
  simp

theorem room_le (e : Fin 8) : q.room e ≤ q.count e + 511 := Nat.div_mul_le_self _ _

theorem count_le_room (e : Fin 8) : q.count e ≤ q.room e := by unfold Choice.room; omega

theorem stop_le (e : Fin 8) : q.stop e ≤ 8184 := by
  have h1 : q.stop e ≤ ∑ e', (q.count e' + 511) := Finset.sum_le_sum fun e' _ => by
    split_ifs
    · exact room_le q e'
    · omega
  rw [Finset.sum_add_distrib, count_total] at h1
  simpa using h1

theorem count_le (e : Fin 8) : q.count e ≤ 2048 := by
  have h : q.count e ≤ ∑ _t : Fin 2048, 1 := Finset.sum_le_sum fun t _ => bit_le q t e
  simpa using h

theorem room_le_stop (e : Fin 8) : q.room e ≤ q.stop e := by
  have h := Finset.single_le_sum (f := fun e' => if e' ≤ e then q.room e' else 0) (fun _ _ => Nat.zero_le _) (Finset.mem_univ e)
  rwa [if_pos le_rfl] at h

theorem start_add_room (e : Fin 8) : q.start e + q.room e = q.stop e := Nat.sub_add_cancel (room_le_stop q e)

theorem stop_mono {e e' : Fin 8} (h : e ≤ e') : q.stop e ≤ q.stop e' := Finset.sum_le_sum fun x _ => by
  by_cases hx : x ≤ e
  · rw [if_pos hx, if_pos (hx.trans h)]
  · rw [if_neg hx]; exact Nat.zero_le _

/-- A later group starts no earlier than an earlier one ends. -/
theorem stop_le_start {e e' : Fin 8} (h : e < e') : q.stop e ≤ q.start e' := by
  have hle : q.stop e + q.room e' ≤ q.stop e' := by
    have h1 : q.room e' = ∑ x, if x = e' then q.room x else 0 := by
      rw [Finset.sum_ite_eq' Finset.univ e']; simp
    rw [h1]
    unfold Choice.stop
    rw [← Finset.sum_add_distrib]
    refine Finset.sum_le_sum fun x _ => ?_
    by_cases hx : x = e'
    · subst hx
      rw [if_neg (not_le.mpr h), if_pos rfl, if_pos le_rfl]; omega
    · rw [if_neg hx]
      by_cases hx' : x ≤ e
      · rw [if_pos hx', if_pos (hx'.trans h.le)]; omega
      · rw [if_neg hx']; omega
  unfold Choice.start
  omega

theorem stop_dvd (e : Fin 8) : 512 ∣ q.stop e := Finset.dvd_sum fun x _ => by
  split_ifs
  · exact Dvd.intro_left _ rfl
  · exact dvd_zero _

theorem start_dvd (e : Fin 8) : 512 ∣ q.start e := Nat.dvd_sub (stop_dvd q e) (Dvd.intro_left _ rfl)

theorem rank_mono (e : Fin 8) {m n : ℕ} (h : m ≤ n) : q.rank e m ≤ q.rank e n :=
  Finset.sum_le_sum_of_subset (Finset.range_mono h)

theorem rank_end (e : Fin 8) : q.rank e 2048 = q.count e := by
  unfold Choice.rank Choice.count
  rw [Finset.sum_range]
  exact Finset.sum_congr rfl fun t _ => bitN_val q t e

theorem rank_succ (e : Fin 8) (t : Fin 2048) (h : q.bit t e = 1) : q.rank e (t + 1) = q.rank e t + 1 := by
  unfold Choice.rank
  rw [Finset.sum_range_succ, bitN_val, h]

theorem rank_lt (e : Fin 8) (t : Fin 2048) (h : q.bit t e = 1) : q.rank e t < q.count e := by
  have h1 := rank_mono q e (Nat.succ_le_of_lt t.isLt)
  rw [Nat.succ_eq_add_one, rank_succ q e t h, rank_end] at h1
  omega

theorem place_lt_stop (t : Fin 2048) (e : Fin 8) (h : q.bit t e = 1) : q.place t e < q.stop e := by
  have := rank_lt q e t h
  have := count_le_room q e
  have := start_add_room q e
  unfold Choice.place
  omega

theorem place_lt (t : Fin 2048) (e : Fin 8) (h : q.bit t e = 1) : q.place t e < 8192 := by
  have := place_lt_stop q t e h
  have := stop_le q e
  omega

theorem rank_inj (e : Fin 8) {t t' : Fin 2048} (h : q.bit t e = 1) (h' : q.bit t' e = 1) (hr : q.rank e t = q.rank e t') : t = t' := by
  rcases lt_trichotomy t t' with hlt | heq | hlt
  · have h1 := rank_mono q e (Nat.succ_le_of_lt hlt)
    rw [Nat.succ_eq_add_one, rank_succ q e t h] at h1
    omega
  · exact heq
  · have h1 := rank_mono q e (Nat.succ_le_of_lt hlt)
    rw [Nat.succ_eq_add_one, rank_succ q e t' h'] at h1
    omega

/-- No two choices share a place. -/
theorem place_inj {t t' : Fin 2048} {e e' : Fin 8} (h : q.bit t e = 1) (h' : q.bit t' e' = 1) (hp : q.place t e = q.place t' e') :
    t = t' ∧ e = e' := by
  have hs := place_lt_stop q t e h
  have hs' := place_lt_stop q t' e' h'
  rcases lt_trichotomy e e' with hlt | heq | hlt
  · have := stop_le_start q hlt
    unfold Choice.place at *
    omega
  · subst heq
    refine ⟨rank_inj q e h h' ?_, rfl⟩
    unfold Choice.place at hp
    omega
  · have := stop_le_start q hlt
    unfold Choice.place at *
    omega

/-- The block of a choice belongs to the chosen expert. -/
theorem owner_place (t : Fin 2048) (e : Fin 8) (h : q.bit t e = 1) : q.owner (q.place t e / 512 * 512) = e := by
  have hs := place_lt_stop q t e h
  have h1 : ∀ e', q.stop e' ≤ q.place t e / 512 * 512 ↔ e' < e := fun e' => by
    constructor
    · intro hle
      by_contra hn
      have := stop_mono q (not_lt.mp hn)
      omega
    · intro hlt
      have h2 := stop_le_start q hlt
      obtain ⟨k, hk⟩ := start_dvd q e
      have : q.start e ≤ q.place t e := Nat.le_add_right _ _
      omega
  unfold Choice.owner
  rw [Finset.sum_congr rfl fun e' _ => if_congr (h1 e') rfl rfl, ← Finset.card_filter]
  rw [show (Finset.univ.filter fun i => i < e) = Finset.Iio e from by ext i; simp]
  exact Fin.card_Iio e

theorem owner_le (n : ℕ) : q.owner n ≤ 8 := by
  have h : q.owner n ≤ ∑ _e : Fin 8, 1 := Finset.sum_le_sum fun e _ => by split_ifs <;> omega
  simpa using h

/-- The first block belongs to some expert. -/
theorem owner_zero : q.owner 0 < 8 := by
  have hne : q.stop 7 ≠ 0 := by
    have h1 : (∑ e, q.count e) ≤ q.stop 7 := Finset.sum_le_sum fun e _ => by
      rw [if_pos (show e ≤ 7 by omega)]
      exact count_le_room q e
    rw [count_total] at h1
    omega
  unfold Choice.owner
  rw [← Finset.card_filter]
  refine lt_of_lt_of_eq (Finset.card_lt_card (Finset.filter_ssubset.mpr ⟨7, Finset.mem_univ _, fun h => hne (Nat.le_zero.mp h)⟩)) ?_
  simp

end Cert.Routing
end
-- ==== Proof.Value.Words.lean ====
module

public import Idealize.ShloMosaic.Lib.Pointwise
public import Idealize.ShloMosaic.Lib.IndicatorCount
public import Idealize.ShloMosaic.Lib.Routing.Words

/-! # Words and extended reals that hold small natural numbers

The router counts in floating point and in 32-bit words. Here: the conversions between the two on a small natural number, the
0/1 number of a comparison, and a sum of natural numbers. -/

@[expose] public section

noncomputable section
namespace Cert.Words

open Idealize.ShloMosaic

theorem sitofp_nat {φ : FTy} {n : ℕ} (h : n < 2 ^ 31) : (FloatOps.sitofp φ (BitVec.ofNat 32 n) : Ideal φ) = ((n : ℕ) : EReal) := by
  show (((BitVec.ofNat 32 n).toInt : ℝ) : EReal) = _
  rw [BitVec.toInt_eq_toNat_cond, BitVec.toNat_ofNat, Nat.mod_eq_of_lt (by omega), if_pos (by omega)]
  push_cast
  rfl

theorem fptosi_nat {φ : FTy} {n : ℕ} (h : n < 2 ^ 31) : FloatOps.fptosi (F := Ideal) (φ := φ) 32 ((n : ℕ) : EReal) = BitVec.ofNat 32 n := by
  show Ideal.fptosi 32 _ = _
  rw [← EReal.coe_natCast, Ideal.fptosi, Ideal.toIntClamped_coe, if_pos (Nat.cast_nonneg n), Int.floor_natCast]
  rw [min_eq_right (by norm_num; omega), max_eq_right (by norm_num)]
  exact BitVec.ofInt_natCast 32 n

/-- A comparison's bit as a number. -/
theorem sitofp_bit {φ : FTy} (p : Prop) [Decidable p] :
    (FloatOps.sitofp φ (BitVec.setWidth 32 (BitVec.ofBool (decide p))) : Ideal φ) = ((if p then 1 else 0 : ℕ) : EReal) := by
  by_cases hp : p
  · rw [decide_eq_true hp, if_pos hp]; exact sitofp_nat (n := 1) (by omega)
  · rw [decide_eq_false hp, if_neg hp]; exact sitofp_nat (n := 0) (by omega)

theorem uitofp_bit {φ : FTy} (p : Prop) [Decidable p] :
    (FloatOps.uitofp φ (BitVec.ofBool (decide p)) : Ideal φ) = ((if p then 1 else 0 : ℕ) : EReal) := by
  show (((BitVec.ofBool (decide p)).toNat : ℝ) : EReal) = _
  by_cases hp : p
  · rw [decide_eq_true hp, if_pos hp]; simp
  · rw [decide_eq_false hp, if_neg hp]; simp

theorem slt_nat {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  simp

theorem sle_nat {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  rw [BitVec.sle, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  simp

theorem eq_nat {a b : ℕ} (ha : a < 2 ^ 32) (hb : b < 2 ^ 32) :
    IntOp.cmpi .eq (BitVec.ofNat 32 a) (BitVec.ofNat 32 b) = BitVec.ofBool (decide (a = b)) := by
  show BitVec.ofBool (_ == _) = _
  refine congrArg BitVec.ofBool (Bool.eq_iff_iff.mpr ?_)
  rw [beq_iff_eq, decide_eq_true_iff]
  refine ⟨fun h => ?_, fun h => h ▸ rfl⟩
  have := congrArg BitVec.toNat h
  rwa [BitVec.toNat_ofNat, BitVec.toNat_ofNat, Nat.mod_eq_of_lt ha, Nat.mod_eq_of_lt hb] at this

theorem bit_eq_one {p : Prop} [Decidable p] : BitVec.ofBool (decide p) = 1#1 ↔ p := by
  by_cases hp : p
  · rw [decide_eq_true hp]; exact ⟨fun _ => hp, fun _ => rfl⟩
  · rw [decide_eq_false hp]; exact ⟨fun h => absurd h (by decide), fun h => absurd h hp⟩

/-- Counting the bits of a family of comparisons. -/
theorem fold_bits {n : ℕ} (p : Fin n → Prop) [DecidablePred p] :
    Finset.fold IntOp.addi 0#32 (fun x => BitVec.setWidth 32 (BitVec.ofBool (decide (p x)))) Finset.univ
      = BitVec.ofNat 32 (∑ x, if p x then 1 else 0) := by
  rw [IndicatorCount.fold_addi_setWidth_eq_card, ← Finset.card_filter]
  exact congrArg (fun s => BitVec.ofNat 32 (Finset.card s)) (Finset.filter_congr fun x _ => bit_eq_one)

theorem sum_nat {ι : Type} (s : Finset ι) (f : ι → ℕ) : (∑ x ∈ s, ((f x : ℕ) : EReal)) = ((∑ x ∈ s, f x : ℕ) : EReal) := (Nat.cast_sum s f).symm

theorem add_nat (a b : ℕ) : ((a : ℕ) : EReal) + ((b : ℕ) : EReal) = ((a + b : ℕ) : EReal) := (Nat.cast_add a b).symm

theorem mul_nat (a b : ℕ) : ((a : ℕ) : EReal) * ((b : ℕ) : EReal) = ((a * b : ℕ) : EReal) := by
  rw [← EReal.coe_natCast, ← EReal.coe_natCast, ← EReal.coe_natCast, ← EReal.coe_mul, Nat.cast_mul]

theorem sub_nat {a b : ℕ} (h : b ≤ a) : ((a : ℕ) : EReal) - ((b : ℕ) : EReal) = ((a - b : ℕ) : EReal) := by
  rw [← EReal.coe_natCast, ← EReal.coe_natCast, ← EReal.coe_natCast, ← EReal.coe_sub, Nat.cast_sub h]

theorem le_nat {a b : ℕ} : ((a : ℕ) : EReal) ≤ ((b : ℕ) : EReal) ↔ a ≤ b := by
  rw [← EReal.coe_natCast, ← EReal.coe_natCast, EReal.coe_le_coe_iff, Nat.cast_le]

theorem plus_511 {c : ℕ} (h : c ≤ 2048) :
    IntOp.subi (IntOp.addi (FloatOps.fptosi (F := Ideal) (φ := FTy.f32) 32 ((c : ℕ) : EReal)) 512#32) 1#32 = BitVec.ofNat 32 (c + 511) := by
  rw [fptosi_nat (by omega)]
  show BitVec.ofNat 32 c + BitVec.ofNat 32 512 - BitVec.ofNat 32 1 = _
  rw [← BitVec.ofNat_add, Routing.ofNat32_sub (by omega)]
  rfl

/-- The word arithmetic that rounds a count up to a multiple of 512. -/
theorem round_up {c : ℕ} (h : c ≤ 2048) :
    IntOp.muli
        (Scalar.select
          (IntOp.andi
            (IntOp.cmpi CmpIPredicate.ne
              (IntOp.subi (BitVec.setWidth 32 (IntOp.cmpi CmpIPredicate.sgt (BitVec.ofNat 32 (c + 511)) 0#32))
                (BitVec.setWidth 32 (IntOp.cmpi CmpIPredicate.slt (BitVec.ofNat 32 (c + 511)) 0#32)))
              (Scalar.subi (Scalar.extui (Scalar.cmpi CmpIPredicate.sgt 512#32 0#32))
                (Scalar.extui (Scalar.cmpi CmpIPredicate.slt 512#32 0#32))))
            (IntOp.cmpi CmpIPredicate.ne (IntOp.remsi ArithUnit.vector (BitVec.ofNat 32 (c + 511)) 512#32) 0#32))
          (IntOp.subi (IntOp.divsi ArithUnit.vector (BitVec.ofNat 32 (c + 511)) 512#32) 1#32)
          (IntOp.divsi ArithUnit.vector (BitVec.ofNat 32 (c + 511)) 512#32))
        512#32 = BitVec.ofNat 32 ((c + 511) / 512 * 512) := by
  have h1 : IntOp.cmpi CmpIPredicate.sgt (BitVec.ofNat 32 (c + 511)) 0#32 = 1#1 :=
    (slt_nat (a := 0) (b := c + 511) (by omega) (by omega)).trans (by rw [decide_eq_true (by omega)]; rfl)
  have h2 : IntOp.cmpi CmpIPredicate.slt (BitVec.ofNat 32 (c + 511)) 0#32 = 0#1 :=
    (slt_nat (a := c + 511) (b := 0) (by omega) (by omega)).trans (by rw [decide_eq_false (by omega)]; rfl)
  rw [h1, h2]
  have h3 : (IntOp.cmpi CmpIPredicate.ne (IntOp.subi (BitVec.setWidth 32 1#1) (BitVec.setWidth 32 0#1))
      (Scalar.subi (Scalar.extui (Scalar.cmpi CmpIPredicate.sgt 512#32 0#32)) (Scalar.extui (Scalar.cmpi CmpIPredicate.slt 512#32 0#32)))) = 0#1 := by decide
  rw [h3]
  have h4 : ∀ b : BitVec 1, IntOp.andi 0#1 b = 0#1 := by decide
  rw [h4]
  show IntOp.muli (IntOp.divsi ArithUnit.vector (BitVec.ofNat 32 (c + 511)) (BitVec.ofNat 32 512)) 512#32 = _
  rw [Routing.divsi_word ArithUnit.vector (by omega) (by omega) (by omega)]
  exact (BitVec.ofNat_mul_ofNat _ _).symm ▸ rfl

end Cert.Words
end
end
-- ==== Proof.Value.Top.lean ====
module

public import proofs.«01_k».proof.Proof.Value.Routing
public import proofs.«01_k».proof.Proof.Value.Words

/-! # The two largest of a row's logits

A choice of two experts per row is the top two of the logits when the first is above every other and the second above the rest.
Counting the larger logits finds the choice, and so does taking the largest, masking it out, and taking the largest again. -/

@[expose] public section

noncomputable section
namespace Cert.Routing

open Idealize.ShloMosaic

/-- `q` chooses the two largest logits of each row, and no logit ties with either. -/
structure Top (q : Choice) (l : Fin 2048 → Fin 8 → EReal) : Prop where
  fst : ∀ t e, e ≠ q.fst t → l t e < l t (q.fst t)
  snd : ∀ t e, e ≠ q.fst t → e ≠ q.snd t → l t e < l t (q.snd t)

/-- How many of the row's logits are larger. -/
def larger (l : Fin 8 → EReal) (e : Fin 8) : ℕ := ∑ x, if l e < l x then 1 else 0

theorem fold_max_eq {n : ℕ} (f : Fin n → EReal) (v : EReal) (h1 : ∀ x, f x ≤ v) (h2 : ∃ x, f x = v) :
    Finset.fold max ⊥ f Finset.univ = v := by
  refine le_antisymm ((Finset.fold_max_le v).mpr ⟨bot_le, fun x _ => h1 x⟩) ?_
  obtain ⟨x, rfl⟩ := h2
  exact (Finset.le_fold_max _).mpr (.inr ⟨x, Finset.mem_univ x, le_rfl⟩)

theorem neg_inf : Ideal.ofBits FTy.f32 4286578688#32 = ⊥ := by simp [Ideal.ofBits, Ideal.ieee]

/-- The choice that the counts of larger logits make, when just one count of each row is 0 and just one is 1. -/
theorem exists_top (l : Fin 2048 → Fin 8 → EReal) (h0 : ∀ t, ∃! e, larger (l t) e = 0) (h1 : ∀ t, ∃! e, larger (l t) e = 1) :
    ∃ q, Top q l := by
  choose f hf hfu using h0
  choose g hg hgu using h1
  have hne : ∀ t, f t ≠ g t := fun t h => by
    have := hf t; have := hg t; rw [← h] at this; simp only at *; omega
  have hmono : ∀ t a b, l t a = l t b → larger (l t) a = larger (l t) b := fun t a b h => by unfold larger; rw [h]
  have hz : ∀ t e, l t e ≤ l t (f t) := fun t e => by
    have h := hf t
    simp only [larger, Finset.sum_eq_zero_iff] at h
    by_contra hlt
    have := h e (Finset.mem_univ _)
    rw [if_pos (not_le.mp hlt)] at this
    exact one_ne_zero this
  have hfst : ∀ t e, e ≠ f t → l t e < l t (f t) := fun t e he =>
    lt_of_le_of_ne (hz t e) fun h => he (hfu t e ((hmono t _ _ h).trans (hf t)))
  refine ⟨⟨f, g, hne⟩, ⟨hfst, fun t e h h' => ?_⟩⟩
  have hle : l t e ≤ l t (g t) := by
    by_contra hlt
    have hsum : larger (l t) (g t) = 1 := hg t
    have h2 : (∑ x ∈ ({f t, e} : Finset (Fin 8)), if l t (g t) < l t x then 1 else 0) ≤ larger (l t) (g t) :=
      Finset.sum_le_sum_of_subset (Finset.subset_univ _)
    rw [Finset.sum_pair (Ne.symm h), if_pos (hfst t _ (Ne.symm (hne t))), if_pos (not_le.mp hlt)] at h2
    omega
  exact lt_of_le_of_ne hle fun he => h' (hgu t e ((hmono t _ _ he).trans (hg t)))

variable {q : Choice} {l : Fin 2048 → Fin 8 → EReal} (hq : Top q l)
include hq

theorem Top.lt (t : Fin 2048) : l t (q.snd t) < l t (q.fst t) := hq.fst t _ (Ne.symm (q.ne t))

theorem Top.max (t : Fin 2048) : Finset.fold Max.max ⊥ (fun x => l t x) Finset.univ = l t (q.fst t) :=
  fold_max_eq _ _ (fun x => by
    by_cases h : x = q.fst t
    · rw [h]
    · exact (hq.fst t x h).le) ⟨_, rfl⟩

theorem Top.fst_iff (t : Fin 2048) (e : Fin 8) : l t (q.fst t) ≤ l t e ↔ e = q.fst t :=
  ⟨fun h => by_contra fun hn => absurd h (not_le.mpr (hq.fst t e hn)), fun h => h ▸ le_rfl⟩

/-- The second choice is not minus infinity, as there are more than two experts. -/
theorem Top.bot_lt (t : Fin 2048) : ⊥ < l t (q.snd t) := by
  obtain ⟨e, he⟩ : ∃ e : Fin 8, e ∉ ({q.fst t, q.snd t} : Finset (Fin 8)) := by
    by_contra h
    push Not at h
    have h1 := (Finset.card_le_card (fun x _ => h x : Finset.univ ⊆ ({q.fst t, q.snd t} : Finset (Fin 8)))).trans Finset.card_le_two
    simp at h1
  rw [Finset.mem_insert, Finset.mem_singleton, not_or] at he
  exact bot_le.trans_lt (hq.snd t e he.1 he.2)

/-- The logits with the first choice masked out. -/
theorem Top.max_rest (t : Fin 2048) (r : Fin 8 → EReal) (hr : ∀ e, r e = if e = q.fst t then ⊥ else l t e) :
    Finset.fold Max.max ⊥ (fun x => r x) Finset.univ = l t (q.snd t) :=
  fold_max_eq _ _ (fun x => by
    rw [hr]
    split_ifs with h
    · exact bot_le
    · by_cases h' : x = q.snd t
      · rw [h']
      · exact (hq.snd t x h h').le) ⟨q.snd t, by rw [hr, if_neg (Ne.symm (q.ne t))]⟩

theorem Top.snd_iff (t : Fin 2048) (r : Fin 8 → EReal) (hr : ∀ e, r e = if e = q.fst t then ⊥ else l t e) (e : Fin 8) :
    l t (q.snd t) ≤ r e ↔ e = q.snd t := by
  rw [hr]
  constructor
  · intro h
    by_contra hn
    split_ifs at h with h'
    · exact absurd h (not_le.mpr (hq.bot_lt t))
    · exact absurd h (not_le.mpr (hq.snd t e h' hn))
  · rintro rfl
    rw [if_neg (Ne.symm (q.ne t))]

/-- Fewer than two larger logits: one of the two choices. -/
theorem Top.larger_lt (t : Fin 2048) (e : Fin 8) : (if larger (l t) e < 2 then 1 else 0) = q.bit t e := by
  by_cases h1 : e = q.fst t
  · subst h1
    rw [bit_fst, if_pos]
    have : larger (l t) (q.fst t) = 0 := Finset.sum_eq_zero fun x _ => if_neg (by
      by_cases h : x = q.fst t
      · rw [h]; exact lt_irrefl _
      · exact not_lt.mpr (hq.fst t x h).le)
    omega
  by_cases h2 : e = q.snd t
  · subst h2
    rw [bit_snd, if_pos]
    have : larger (l t) (q.snd t) = ∑ x, if x = q.fst t then 1 else 0 := Finset.sum_congr rfl fun x _ => if_congr (by
      constructor
      · intro h
        by_contra hn
        by_cases h' : x = q.snd t
        · rw [h'] at h; exact lt_irrefl _ h
        · exact lt_asymm h (hq.snd t x hn h')
      · rintro rfl; exact hq.lt t) rfl rfl
    rw [this, Finset.sum_ite_eq' Finset.univ]
    simp
  · have h3 : q.bit t e = 0 := by unfold Choice.bit; rw [if_neg h1, if_neg h2]
    rw [h3, if_neg]
    have h2' : (∑ x ∈ ({q.fst t, q.snd t} : Finset (Fin 8)), if l t e < l t x then 1 else 0) ≤ larger (l t) e :=
      Finset.sum_le_sum_of_subset (Finset.subset_univ _)
    rw [Finset.sum_pair (q.ne t), if_pos (hq.fst t e h1), if_pos (hq.snd t e h1 h2)] at h2'
    omega

end Cert.Routing
end
end
-- ==== Proof.Value.Spec.lean ====
module

public import Idealize.ShloMosaic.Lib.Pointwise

/-! # The expert's feed-forward network on one row, and a row's renormalization, on extended reals -/

@[expose] public section

noncomputable section
namespace Cert.Spec

open Idealize.ShloMosaic

/-- One hidden unit before the activation. -/
def hid (x : Fin 768 → EReal) (w : Fin 2048 → Fin 768 → EReal) (f : Fin 2048) : EReal := ∑ d, x d * w f d

/-- The activation: the tanh form of the Gaussian error linear unit. -/
def act (h : EReal) : EReal :=
  h * (Ideal.ofBits FTy.f32 1056964608#32 * (1 + Ideal.tanh (Ideal.ofBits FTy.f32 1061962282#32 * (h + Ideal.ofBits FTy.f32 1027024659#32 * (h * h * h)))))

/-- The network: the first gate activated, times the second, times the output weights. -/
def ffn (x : Fin 768 → EReal) (w0 w1 wl : Fin 2048 → Fin 768 → EReal) (d : Fin 768) : EReal :=
  ∑ f, act (hid x w0 f) * hid x w1 f * wl f d

/-- The sum of a row's chosen probabilities where positive, else one. -/
def factor (p : Fin 8 → EReal) (b : Fin 8 → ℕ) : EReal := if 0 < ∑ e, p e * ((b e : ℕ) : EReal) then ∑ e, p e * ((b e : ℕ) : EReal) else 1

end Cert.Spec
end
end
-- ==== Proof.Value.Grouped.lean ====
module

public import proofs.«01_k».proof.Proof.KernelIdeal.Gmm
public import proofs.«01_k».proof.Proof.Value.Top
public import proofs.«01_k».proof.Proof.Value.Spec

/-! # What one block of the grouped product adds, on extended reals

A block takes 512 places. It gathers the rows at its places, runs the expert's network on them, weighs the results, and scatters
them back to the rows. As no two choices share a place, a row receives the results of its own places that lie in the block. -/

@[expose] public section
set_option maxRecDepth 16384

noncomputable section
namespace Cert.KernelIdeal.Val

open Cert.KernelIdeal Cert.KernelIdeal.Gen Cert.Words Cert.Routing Cert.Spec
open Idealize.ShloMosaic

/-- How many of a row's two places are place `s`. -/
def hit (p1 p2 : Fin 2048 → ℕ) (t : Fin 2048) (s : ℕ) : ℕ := (if p1 t = s then 1 else 0) + (if p2 t = s then 1 else 0)

/-- The row that the block gathers for place `s`. -/
def gathered (p1 p2 : Fin 2048 → ℕ) (x : Fin 2048 → Fin 768 → EReal) (s : ℕ) (d : Fin 768) : EReal := ∑ t, ((hit p1 p2 t s : ℕ) : EReal) * x t d

/-- The weight that the block gives place `s`. -/
def weighed (p1 p2 : Fin 2048 → ℕ) (c1 c2 : Fin 2048 → EReal) (s : ℕ) : EReal :=
  ∑ t, ((if p1 t = s then c1 t else 0) + (if p2 t = s then c2 t else 0))

theorem place_word {n : ℕ} (j : Fin 512) :
    IntOp.addi (BitVec.ofNat 32 j.val) (Scalar.muli (BitVec.ofNat 32 n) 512#32) = BitVec.ofNat 32 (512 * n + j.val) := by
  show BitVec.ofNat 32 j.val + BitVec.ofNat 32 n * BitVec.ofNat 32 512 = _
  rw [show BitVec.ofNat 32 n * BitVec.ofNat 32 512 = BitVec.ofNat 32 (512 * n) from (BitVec.ofNat_mul_ofNat n 512).trans (by rw [mul_comm]),
    ← BitVec.ofNat_add, add_comm]

variable {n : ℕ} (hn : n < 16) {r1 r2 : Vec Ideal S2048x1 .i32} {p1 p2 : Fin 2048 → ℕ} (hp1 : ∀ t, p1 t < 8192) (hp2 : ∀ t, p2 t < 8192)
  (hr1 : ∀ t, r1 (ix2 t 0) = BitVec.ofNat 32 (p1 t)) (hr2 : ∀ t, r2 (ix2 t 0) = BitVec.ofNat 32 (p2 t))
include hn hp1 hp2 hr1 hr2

omit hp2 hr2 in
theorem mask1 (t : Fin 2048) (j : Fin 512) : k1_pay4 (F := Ideal) (BitVec.ofNat 32 n) r1 (ix2 t j) = BitVec.ofBool (decide (p1 t = 512 * n + j.val)) := by
  have h := hp1 t
  have h1 := hr1 t
  pointwise [k1_pay4, k1_pay3]
  rw [place_word, h1, eq_nat (by omega) (by omega)]

omit hp1 hr1 in
theorem mask2 (t : Fin 2048) (j : Fin 512) : k1_pay5 (F := Ideal) (BitVec.ofNat 32 n) r2 (ix2 t j) = BitVec.ofBool (decide (p2 t = 512 * n + j.val)) := by
  have h := hp2 t
  have h1 := hr2 t
  pointwise [k1_pay5, k1_pay3]
  rw [place_word, h1, eq_nat (by omega) (by omega)]

theorem hits (t : Fin 2048) (j : Fin 512) : k1_pay6 (F := Ideal) (BitVec.ofNat 32 n) r1 r2 (ix2 t j) = ((hit p1 p2 t (512 * n + j.val) : ℕ) : EReal) := by
  have h1 := mask1 hn hp1 hr1 t j
  have h2 := mask2 hn hp2 hr2 t j
  pointwise [k1_pay6]
  rw [h1, h2, sitofp_bit, sitofp_bit, add_nat]
  rfl

variable {x0 : Vec Ideal S2048x768 .bf16} {x5 x6 x7 : Vec Ideal S1x2048x768 .bf16} {c1 c2 : Vec Ideal S2048x1 .f32}

theorem unit1 (j : Fin 512) (f : Fin 2048) : k1_pay9 (F := Ideal) (BitVec.ofNat 32 n) r1 r2 x0 x5 (ix2 j f)
    = hid (gathered p1 p2 (fun t d => x0 (ix2 t d)) (512 * n + j.val)) (fun f d => x5 (ix3 0 f d)) f := by
  have h := fun t => hits hn hp1 hp2 hr1 hr2 t j
  pointwise [k1_pay9, k1_pay7]
  simp only [h]
  rfl

theorem unit2 (j : Fin 512) (f : Fin 2048) : k1_pay10 (F := Ideal) (BitVec.ofNat 32 n) r1 r2 x0 x6 (ix2 j f)
    = hid (gathered p1 p2 (fun t d => x0 (ix2 t d)) (512 * n + j.val)) (fun f d => x6 (ix3 0 f d)) f := by
  have h := fun t => hits hn hp1 hp2 hr1 hr2 t j
  pointwise [k1_pay10, k1_pay7]
  simp only [h]
  rfl

theorem unit_act (j : Fin 512) (f : Fin 2048) (h : EReal) (hh : k1_pay9 (F := Ideal) (BitVec.ofNat 32 n) r1 r2 x0 x5 (ix2 j f) = h) :
    k1_pay9 (F := Ideal) (BitVec.ofNat 32 n) r1 r2 x0 x5 (ix2 j f) * (Ideal.ofBits FTy.f32 1056964608#32 * (1 + k1_pay11 (F := Ideal) (BitVec.ofNat 32 n) r1 r2 x0 x5 (ix2 j f)))
      = act h := by
  rw [hh]
  unfold act
  congr 3
  pointwise [k1_pay11]
  rw [hh, mul_comm h (h * h)]

/-- The result that the block makes for place `s`. -/
def made (p1 p2 : Fin 2048 → ℕ) (x : Fin 2048 → Fin 768 → EReal) (c1 c2 : Fin 2048 → EReal) (w0 w1 wl : Fin 2048 → Fin 768 → EReal) (s : ℕ) (d : Fin 768) : EReal :=
  ffn (gathered p1 p2 x s) w0 w1 wl d * weighed p1 p2 c1 c2 s

theorem part_apply (t : Fin 2048) (d : Fin 768) :
    k1_pay1 (F := Ideal) (k1_pay4 (BitVec.ofNat 32 n) r1) (k1_pay5 (BitVec.ofNat 32 n) r2) (k1_pay6 (BitVec.ofNat 32 n) r1 r2) (k1_pay8 x7)
      (k1_pay9 (BitVec.ofNat 32 n) r1 r2 x0 x5) (k1_pay10 (BitVec.ofNat 32 n) r1 r2 x0 x6) (k1_pay11 (BitVec.ofNat 32 n) r1 r2 x0 x5) c1 c2 (ix2 t d)
      = ∑ j : Fin 512, ((hit p1 p2 t (512 * n + j.val) : ℕ) : EReal) * made p1 p2 (fun t d => x0 (ix2 t d)) (fun t => c1 (ix2 t 0)) (fun t => c2 (ix2 t 0))
          (fun f d => x5 (ix3 0 f d)) (fun f d => x6 (ix3 0 f d)) (fun f d => x7 (ix3 0 f d)) (512 * n + j.val) d := by
  have h := fun j => hits hn hp1 hp2 hr1 hr2 t j
  have h1 := fun t j => mask1 hn hp1 hr1 t j
  have h2 := fun t j => mask2 hn hp2 hr2 t j
  have h3 := fun j f => unit_act (x0 := x0) (x5 := x5) hn hp1 hp2 hr1 hr2 j f _ (unit1 hn hp1 hp2 hr1 hr2 j f)
  have h4 := fun j f => unit2 (x0 := x0) (x6 := x6) hn hp1 hp2 hr1 hr2 j f
  have h5 : ∀ f d, k1_pay8 x7 (ix2 f d) = x7 (ix3 0 f d) := fun f d => by pointwise [k1_pay8]
  have h6 : ∀ (P : Prop) [Decidable P] (v : EReal), Scalar.select (BitVec.ofBool (decide P)) v 0 = if P then v else 0 := fun P _ v => by
    by_cases hP : P
    · rw [decide_eq_true hP, if_pos hP]; rfl
    · rw [decide_eq_false hP, if_neg hP]; rfl
  pointwise [k1_pay1]
  simp only [h, h1, h2, h3, h4, h5, h6]
  rfl

end Cert.KernelIdeal.Val
end
end
-- ==== Proof.Value.Collect.lean ====
module

public import proofs.«01_k».proof.Proof.Value.Grouped

/-! # The sixteen blocks together: every row receives its two experts' results -/

@[expose] public section
set_option maxRecDepth 16384

noncomputable section
namespace Cert.KernelIdeal.Val

open Cert.KernelIdeal Cert.KernelIdeal.Gen Cert.Words Cert.Routing Cert.Spec
open Idealize.ShloMosaic

variable (q : Choice)

/-- The place of a row's first choice. -/
def pa (q : Choice) (t : Fin 2048) : ℕ := q.place t (q.fst t)

/-- The place of a row's second choice. -/
def pb (q : Choice) (t : Fin 2048) : ℕ := q.place t (q.snd t)

theorem pa_lt (t : Fin 2048) : pa q t < 8192 := place_lt q t _ (bit_fst q t)
theorem pb_lt (t : Fin 2048) : pb q t < 8192 := place_lt q t _ (bit_snd q t)

theorem pa_eq_pa (t' t : Fin 2048) : pa q t' = pa q t ↔ t' = t :=
  ⟨fun h => (place_inj q (bit_fst q t') (bit_fst q t) h).1, fun h => by rw [h]⟩
theorem pb_eq_pb (t' t : Fin 2048) : pb q t' = pb q t ↔ t' = t :=
  ⟨fun h => (place_inj q (bit_snd q t') (bit_snd q t) h).1, fun h => by rw [h]⟩
theorem pa_ne_pb (t' t : Fin 2048) : pa q t' ≠ pb q t := fun h => by
  obtain ⟨h1, h2⟩ := place_inj q (bit_fst q t') (bit_snd q t) h
  subst h1
  exact q.ne _ h2

theorem hit_pa (t' t : Fin 2048) : hit (pa q) (pb q) t' (pa q t) = if t' = t then 1 else 0 := by
  unfold hit
  rw [if_neg (fun h : pb q t' = pa q t => pa_ne_pb q t t' h.symm), add_zero]
  exact if_congr (pa_eq_pa q t' t) rfl rfl
theorem hit_pb (t' t : Fin 2048) : hit (pa q) (pb q) t' (pb q t) = if t' = t then 1 else 0 := by
  unfold hit
  rw [if_neg (pa_ne_pb q t' t), zero_add]
  exact if_congr (pb_eq_pb q t' t) rfl rfl

theorem sum_one (t : Fin 2048) (v : Fin 2048 → EReal) : ∑ t', (((if t' = t then 1 else 0 : ℕ) : ℕ) : EReal) * v t' = v t := by
  rw [Finset.sum_eq_single t (fun t' _ h => by rw [if_neg h, Nat.cast_zero, zero_mul]) (fun h => absurd (Finset.mem_univ _) h), if_pos rfl, Nat.cast_one, one_mul]

variable (x : Fin 2048 → Fin 768 → EReal) (c1 c2 : Fin 2048 → EReal) (w0 w1 wl : Fin 2048 → Fin 768 → EReal)

theorem gathered_pa (t : Fin 2048) : gathered (pa q) (pb q) x (pa q t) = x t := by
  funext d
  unfold gathered
  simp only [hit_pa]
  exact sum_one t fun t => x t d
theorem gathered_pb (t : Fin 2048) : gathered (pa q) (pb q) x (pb q t) = x t := by
  funext d
  unfold gathered
  simp only [hit_pb]
  exact sum_one t fun t => x t d

theorem weighed_pa (t : Fin 2048) : weighed (pa q) (pb q) c1 c2 (pa q t) = c1 t := by
  unfold weighed
  rw [Finset.sum_eq_single t (fun t' _ h => by rw [if_neg (mt (pa_eq_pa q t' t).1 h), if_neg (fun h : pb q t' = pa q t => pa_ne_pb q t t' h.symm), add_zero])
    (fun h => absurd (Finset.mem_univ _) h), if_pos rfl, if_neg (fun h : pb q t = pa q t => pa_ne_pb q t t h.symm), add_zero]
theorem weighed_pb (t : Fin 2048) : weighed (pa q) (pb q) c1 c2 (pb q t) = c2 t := by
  unfold weighed
  rw [Finset.sum_eq_single t (fun t' _ h => by rw [if_neg (mt (pb_eq_pb q t' t).1 h), if_neg (pa_ne_pb q t' t), add_zero])
    (fun h => absurd (Finset.mem_univ _) h), if_pos rfl, if_neg (pa_ne_pb q t t), zero_add]

theorem made_pa (t : Fin 2048) (d : Fin 768) : made (pa q) (pb q) x c1 c2 w0 w1 wl (pa q t) d = ffn (x t) w0 w1 wl d * c1 t := by
  unfold made
  rw [gathered_pa, weighed_pa]
theorem made_pb (t : Fin 2048) (d : Fin 768) : made (pa q) (pb q) x c1 c2 w0 w1 wl (pb q t) d = ffn (x t) w0 w1 wl d * c2 t := by
  unfold made
  rw [gathered_pb, weighed_pb]

/-- Summing over a block's places what a place `p` picks gives the value at `p`, if `p` lies in the block. -/
theorem sum_block (n p : ℕ) (G : ℕ → EReal) :
    ∑ j : Fin 512, (((if p = 512 * n + j.val then 1 else 0 : ℕ) : ℕ) : EReal) * G (512 * n + j.val) = if p / 512 = n then G p else 0 := by
  by_cases h : p / 512 = n
  · have hp : p = 512 * n + p % 512 := by omega
    rw [if_pos h, Finset.sum_eq_single (⟨p % 512, Nat.mod_lt _ (by decide)⟩ : Fin 512)
      (fun j _ hj => by rw [if_neg (fun e => hj (Fin.ext (by show j.val = p % 512; omega))), Nat.cast_zero, zero_mul])
      (fun h => absurd (Finset.mem_univ _) h)]
    show (((if p = 512 * n + p % 512 then 1 else 0 : ℕ) : ℕ) : EReal) * G (512 * n + p % 512) = G p
    rw [← hp, if_pos rfl, Nat.cast_one, one_mul]
  · rw [if_neg h]
    exact Finset.sum_eq_zero fun j _ => by rw [if_neg (fun e => h (by have := j.isLt; omega)), Nat.cast_zero, zero_mul]

theorem sum_hits (n : ℕ) (p1 p2 : Fin 2048 → ℕ) (t : Fin 2048) (G : ℕ → EReal) :
    ∑ j : Fin 512, ((hit p1 p2 t (512 * n + j.val) : ℕ) : EReal) * G (512 * n + j.val)
      = (if p1 t / 512 = n then G (p1 t) else 0) + (if p2 t / 512 = n then G (p2 t) else 0) := by
  rw [← sum_block n (p1 t) G, ← sum_block n (p2 t) G, ← Finset.sum_add_distrib]
  refine Finset.sum_congr rfl fun j _ => ?_
  unfold hit
  rw [Nat.cast_add, EReal.right_distrib_of_nonneg (Nat.cast_nonneg' _) (Nat.cast_nonneg' _)]

/-- What block `n` adds to a row, given the weights of the expert it works for. -/
theorem block_sum (n : ℕ) (t : Fin 2048) (d : Fin 768) :
    ∑ j : Fin 512, ((hit (pa q) (pb q) t (512 * n + j.val) : ℕ) : EReal) * made (pa q) (pb q) x c1 c2 w0 w1 wl (512 * n + j.val) d
      = (if pa q t / 512 = n then ffn (x t) w0 w1 wl d * c1 t else 0) + (if pb q t / 512 = n then ffn (x t) w0 w1 wl d * c2 t else 0) := by
  rw [sum_hits n (pa q) (pb q) t fun s => made (pa q) (pb q) x c1 c2 w0 w1 wl s d, made_pa, made_pb]

/-- The expert whose weights block `n` reads. -/
def expert (n : ℕ) : Fin 8 := ⟨min (q.owner (512 * n)) 7, by omega⟩

theorem expert_pa (t : Fin 2048) : q.owner (512 * (pa q t / 512)) < 8 ∧ expert q (pa q t / 512) = q.fst t := by
  have h := owner_place q t (q.fst t) (bit_fst q t)
  have h' : q.owner (512 * (pa q t / 512)) = (q.fst t).val := by rw [mul_comm]; exact h
  have := (q.fst t).isLt
  exact ⟨by omega, Fin.ext (by show min (q.owner _) 7 = _; omega)⟩
theorem expert_pb (t : Fin 2048) : q.owner (512 * (pb q t / 512)) < 8 ∧ expert q (pb q t / 512) = q.snd t := by
  have h := owner_place q t (q.snd t) (bit_snd q t)
  have h' : q.owner (512 * (pb q t / 512)) = (q.snd t).val := by rw [mul_comm]; exact h
  have := (q.snd t).isLt
  exact ⟨by omega, Fin.ext (by show min (q.owner _) 7 = _; omega)⟩

/-- Over the sixteen blocks, of which only those with an owner work, a row collects the results of its two experts. -/
theorem collect (A B : Fin 8 → EReal) (t : Fin 2048) :
    ∑ n ∈ Finset.range 16, (if q.owner (512 * n) < 8 then (if pa q t / 512 = n then A (expert q n) else 0) + (if pb q t / 512 = n then B (expert q n) else 0) else 0)
      = A (q.fst t) + B (q.snd t) := by
  have ha := pa_lt q t
  have hb := pb_lt q t
  have h : ∀ n, (if q.owner (512 * n) < 8 then (if pa q t / 512 = n then A (expert q n) else 0) + (if pb q t / 512 = n then B (expert q n) else 0) else 0)
      = (if pa q t / 512 = n then A (q.fst t) else 0) + (if pb q t / 512 = n then B (q.snd t) else 0) := fun n => by
    by_cases h1 : pa q t / 512 = n
    · subst h1
      obtain ⟨e1, e2⟩ := expert_pa q t
      rw [if_pos e1, if_pos rfl, if_pos rfl, e2]
      by_cases h2 : pb q t / 512 = pa q t / 512
      · rw [if_pos h2, if_pos h2, ← e2, ← h2, (expert_pb q t).2]
      · rw [if_neg h2, if_neg h2]
    · by_cases h2 : pb q t / 512 = n
      · subst h2
        obtain ⟨e1, e2⟩ := expert_pb q t
        rw [if_pos e1, if_neg h1, if_pos rfl, if_neg h1, if_pos rfl, e2]
      · rw [if_neg h1, if_neg h2, if_neg h1, if_neg h2, add_zero, ite_self]
  rw [Finset.sum_congr rfl fun n _ => h n, Finset.sum_add_distrib, Finset.sum_ite_eq, Finset.sum_ite_eq,
    if_pos (Finset.mem_range.2 (by omega)), if_pos (Finset.mem_range.2 (by omega))]

end Cert.KernelIdeal.Val
end
end
-- ==== Proof.Value.Ranks.lean ====
module

public import proofs.«01_k».proof.Proof.KernelIdeal.Router
public import proofs.«01_k».proof.Proof.Value.Words

/-! # The running count of the router

The router counts, for each row and expert, the earlier rows that chose the expert: 16 slabs of 128 rows, each a product with a
strictly lower triangular matrix of ones, plus the sums of the slabs before it. -/

@[expose] public section
set_option maxRecDepth 16384

noncomputable section
namespace Cert.KernelIdeal.Val

open Cert.KernelIdeal Cert.KernelIdeal.Gen Cert.Words
open Idealize.ShloMosaic

variable {f : Fin 8 → ℕ → ℕ}

/-- `A` holds the sums of the first `n` slabs. -/
def Upto (f : Fin 8 → ℕ → ℕ) (n : ℕ) (A : FVec Ideal S1x8 .f32) : Prop :=
  ∀ e, A (ix2 0 e) = ((∑ k ∈ Finset.range (128 * n), f e k : ℕ) : EReal)

/-- `s` is slab `n`. -/
def IsSlab (f : Fin 8 → ℕ → ℕ) (n : ℕ) (s : FVec Ideal S128x8 .f32) : Prop :=
  ∀ (x : Fin 128) (e : Fin 8), s (ix2 x e) = ((f e (128 * n + x.val) : ℕ) : EReal)

/-- `p` holds slab `n`'s running sums. -/
def IsCount (f : Fin 8 → ℕ → ℕ) (n : ℕ) (p : FVec Ideal S128x8 .f32) : Prop :=
  ∀ (x : Fin 128) (e : Fin 8), p (ix2 x e) = ((∑ k ∈ Finset.range (128 * n + x.val), f e k : ℕ) : EReal)

theorem upto_zero : Upto f 0 k0_pay25 := fun e => by
  pointwise [k0_pay25]
  simp

theorem upto_succ {n : ℕ} {A : FVec Ideal S1x8 .f32} {s : FVec Ideal S128x8 .f32} (hA : Upto f n A) (hs : IsSlab f n s) :
    Upto f (n + 1) (addf A (shapeCast S1x8 (multiReduction .add [0] S8 s 0x00000000#32 reduces_S128x8_S8 (.inl rfl) rfl) shapeCasts_S8_S1x8)) := fun e => by
  have h1 := hA e
  pointwise
  rw [h1, Finset.sum_congr rfl fun x _ => hs x e, sum_nat, add_nat, Nat.mul_succ, Finset.sum_range_add, Finset.sum_range (n := 128)]

theorem sum_slab (g : ℕ → ℕ) (n : ℕ) (x : Fin 128) :
    ∑ k ∈ Finset.range (128 * n + x.val), g k
      = ∑ k ∈ Finset.range (128 * n), g k + ∑ y : Fin 128, (if y.val < x.val then g (128 * n + y.val) else 0) := by
  rw [Finset.sum_range_add, ← Finset.sum_range (n := 128) (fun y => if y < x.val then g (128 * n + y) else 0), ← Finset.sum_filter]
  congr 1
  refine Finset.sum_congr (Finset.ext fun y => ?_) fun _ _ => rfl
  rw [Finset.mem_filter, Finset.mem_range, Finset.mem_range]
  have := x.isLt
  omega

theorem count_of {n : ℕ} {A : FVec Ideal S1x8 .f32} {s : FVec Ideal S128x8 .f32} (hA : Upto f n A) (hs : IsSlab f n s) :
    IsCount f n (addf (matmul dot_S128x128_S128x8_S128x8_1_0_0_1_n_n none (k0_pay24 (F := Ideal)) s (constant S128x8 .f32 0x00000000#32)) (broadcastTo S128x8 A broadcasts_S1x8_S128x8)) := fun x e => by
  have h1 := hA e
  have hy : ∀ y : Fin 128, y.val < 2 ^ 31 := fun y => by omega
  have h2 : ∀ y : Fin 128, (FloatOps.sitofp FTy.f32 (BitVec.setWidth 32 (IntOp.cmpi .slt (BitVec.ofNat 32 y.val) (BitVec.ofNat 32 x.val))) : Ideal .f32) * s (ix2 y e)
      = ((if y.val < x.val then f e (128 * n + y.val) else 0 : ℕ) : EReal) := fun y => by
    rw [slt_nat (hy y) (hy x), sitofp_bit, hs y e, mul_nat, ite_mul, one_mul, zero_mul]
  pointwise [k0_pay24]
  rw [h1]
  refine (congrArg (· + _) ((Finset.sum_congr rfl fun y _ => h2 y).trans (sum_nat _ _))).trans ?_
  rw [add_nat, sum_slab, add_comm]

theorem slab_of {b : FVec Ideal S2048x8 .f32} (hb : ∀ t e, b (ix2 t e) = ((f e t.val : ℕ) : EReal)) (n : ℕ) (hn : n < 16)
    (h : S2048x8.Slices ![128 * n, 0] S128x8) : IsSlab f n (extractStridedSlice S128x8 ![128 * n, 0] b h) := fun x e => by
  pointwise
  exact hb ⟨128 * n + x.val, by omega⟩ e

/-- The slabs' running sums, in order. -/
def slab (b : FVec Ideal S2048x8 .f32) : Fin 16 → FVec Ideal S128x8 .f32 := ![
  k0_pay27 b,
  k0_pay30 b,
  k0_pay33 k0_pay24 (k0_pay31 b) (k0_pay32 b),
  k0_pay36 b k0_pay24 (k0_pay31 b) (k0_pay32 b),
  k0_pay39 b k0_pay24 (k0_pay31 b) (k0_pay32 b),
  k0_pay42 b k0_pay24 (k0_pay31 b) (k0_pay32 b),
  k0_pay45 b k0_pay24 (k0_pay31 b) (k0_pay32 b),
  k0_pay48 b k0_pay24 (k0_pay31 b) (k0_pay32 b),
  k0_pay51 b k0_pay24 (k0_pay31 b) (k0_pay32 b),
  k0_pay55 b k0_pay24 (k0_pay49 b (k0_pay31 b) (k0_pay32 b)) (k0_pay52 b),
  k0_pay58 b k0_pay24 (k0_pay49 b (k0_pay31 b) (k0_pay32 b)) (k0_pay52 b),
  k0_pay61 b k0_pay24 (k0_pay49 b (k0_pay31 b) (k0_pay32 b)) (k0_pay52 b),
  k0_pay64 b k0_pay24 (k0_pay49 b (k0_pay31 b) (k0_pay32 b)) (k0_pay52 b),
  k0_pay67 b k0_pay24 (k0_pay49 b (k0_pay31 b) (k0_pay32 b)) (k0_pay52 b),
  k0_pay70 b k0_pay24 (k0_pay49 b (k0_pay31 b) (k0_pay32 b)) (k0_pay52 b),
  addf (k0_pay71 b k0_pay24) (k0_pay72 b (k0_pay49 b (k0_pay31 b) (k0_pay32 b)) (k0_pay52 b))]

theorem ranks_eq (b : FVec Ideal S2048x8 .f32) :
    Router.ranks b = concatenate S2048x8 0 (List.ofFn fun n : Fin 16 => (⟨S128x8, slab b n⟩ : (s : Shape) × (s.Idx → Ideal .f32))) concatenates_S128x8_S128x8_S128x8_S128x8_S128x8_S128x8_S128x8_S128x8_S128x8_S128x8_S128x8_S128x8_S128x8_S128x8_S128x8_S128x8_S2048x8_d0 := rfl

variable {b : FVec Ideal S2048x8 .f32} (hb : ∀ t e, b (ix2 t e) = ((f e t.val : ℕ) : EReal))
include hb

theorem slab_count (n : Fin 16) : IsCount f n.val (slab b n) := by
  have s : ∀ (n : ℕ) (hn : n < 16) h, IsSlab f n (extractStridedSlice S128x8 ![128 * n, 0] b h) := slab_of hb
  have u0 : Upto f 0 k0_pay25 := upto_zero
  have u1 : Upto f 1 (k0_pay28 b) := upto_succ u0 (s 0 (by omega) (by decide))
  have u2 : Upto f 2 (k0_pay31 b) := upto_succ u1 (s 1 (by omega) (by decide))
  have u3 : Upto f 3 (k0_pay34 (k0_pay31 b) (k0_pay32 b)) := upto_succ u2 (s 2 (by omega) (by decide))
  have u4 : Upto f 4 (k0_pay37 b (k0_pay31 b) (k0_pay32 b)) := upto_succ u3 (s 3 (by omega) (by decide))
  have u5 : Upto f 5 (k0_pay40 b (k0_pay31 b) (k0_pay32 b)) := upto_succ u4 (s 4 (by omega) (by decide))
  have u6 : Upto f 6 (k0_pay43 b (k0_pay31 b) (k0_pay32 b)) := upto_succ u5 (s 5 (by omega) (by decide))
  have u7 : Upto f 7 (k0_pay46 b (k0_pay31 b) (k0_pay32 b)) := upto_succ u6 (s 6 (by omega) (by decide))
  have u8 : Upto f 8 (k0_pay49 b (k0_pay31 b) (k0_pay32 b)) := upto_succ u7 (s 7 (by omega) (by decide))
  have u9 : Upto f 9 (k0_pay53 (k0_pay49 b (k0_pay31 b) (k0_pay32 b)) (k0_pay52 b)) := upto_succ u8 (s 8 (by omega) (by decide))
  have u10 : Upto f 10 (k0_pay56 b (k0_pay49 b (k0_pay31 b) (k0_pay32 b)) (k0_pay52 b)) := upto_succ u9 (s 9 (by omega) (by decide))
  have u11 : Upto f 11 (k0_pay59 b (k0_pay49 b (k0_pay31 b) (k0_pay32 b)) (k0_pay52 b)) := upto_succ u10 (s 10 (by omega) (by decide))
  have u12 : Upto f 12 (k0_pay62 b (k0_pay49 b (k0_pay31 b) (k0_pay32 b)) (k0_pay52 b)) := upto_succ u11 (s 11 (by omega) (by decide))
  have u13 : Upto f 13 (k0_pay65 b (k0_pay49 b (k0_pay31 b) (k0_pay32 b)) (k0_pay52 b)) := upto_succ u12 (s 12 (by omega) (by decide))
  have u14 : Upto f 14 (k0_pay68 b (k0_pay49 b (k0_pay31 b) (k0_pay32 b)) (k0_pay52 b)) := upto_succ u13 (s 13 (by omega) (by decide))
  have u15 := upto_succ u14 (s 14 (by omega) (by decide))
  fin_cases n
  exacts [count_of u0 (s 0 (by omega) (by decide)), count_of u1 (s 1 (by omega) (by decide)), count_of u2 (s 2 (by omega) (by decide)), count_of u3 (s 3 (by omega) (by decide)), count_of u4 (s 4 (by omega) (by decide)), count_of u5 (s 5 (by omega) (by decide)), count_of u6 (s 6 (by omega) (by decide)), count_of u7 (s 7 (by omega) (by decide)), count_of u8 (s 8 (by omega) (by decide)), count_of u9 (s 9 (by omega) (by decide)), count_of u10 (s 10 (by omega) (by decide)), count_of u11 (s 11 (by omega) (by decide)), count_of u12 (s 12 (by omega) (by decide)), count_of u13 (s 13 (by omega) (by decide)), count_of u14 (s 14 (by omega) (by decide)), count_of u15 (s 15 (by omega) (by decide))]

/-- The running count at a row. -/
theorem ranks_apply (t : Fin 2048) (e : Fin 8) : Router.ranks b (ix2 t e) = ((∑ k ∈ Finset.range t.val, f e k : ℕ) : EReal) := by
  have h := slab_count hb ⟨t.val / 128, by omega⟩ ⟨t.val % 128, by omega⟩ e
  rw [show 128 * (t.val / 128) + t.val % 128 = t.val from Nat.div_add_mod _ _] at h
  rw [ranks_eq, ← h]
  exact concatenate_ofFn_apply (t := S2048x8) (s₁ := S128x8) (0 : Fin 2) (slab b) _ rfl 128 rfl (ix2 t e) ⟨t.val / 128, by omega⟩ rfl (ix2 ⟨t.val % 128, by omega⟩ e) rfl (fun a ha => by
    fin_cases a
    · exact absurd rfl ha
    · rfl)

end Cert.KernelIdeal.Val
end
end
-- ==== Proof.Value.Router.lean ====
module

public import proofs.«01_k».proof.Proof.KernelIdeal.Router
public import proofs.«01_k».proof.Proof.Value.Ranks
public import proofs.«01_k».proof.Proof.Value.Top
public import proofs.«01_k».proof.Proof.Value.Spec
public import Idealize.ShloMosaic.Lib.Pipeline.ValueKit.Geometry

/-! # What the router call leaves, on extended reals

From the choice that the logits make: the place of each row's two choices, the weight of each, and the owner of each block. -/

@[expose] public section
set_option maxRecDepth 16384

noncomputable section
namespace Cert.KernelIdeal.Val

open Cert.KernelIdeal Cert.KernelIdeal.Gen Cert.Words Cert.Routing
open Cert.Spec
open Idealize.ShloMosaic

variable (x0 : Vec Ideal S2048x768 .f32) (x1 : Vec Ideal S1x768 .f32) (x2 : Vec Ideal S768x8 .f32) (x3 : Vec Ideal S1x8 .f32)

/-- The kernel's logits. -/
def logits (t : Fin 2048) (e : Fin 8) : EReal := k0_pay5 (F := Ideal) x0 x1 x2 (ix2 t e)

theorem probs_eq : Router.probs x0 x1 x2 = k0_pay6 x0 x1 x2 := by
  unfold Router.probs
  rw [View.ld_unit_lit _ x0 (by decide), View.ld_unit_lit _ x1 (by decide), View.ld_unit_lit _ x2 (by decide)]
theorem rest_eq : Router.rest x0 x1 x2 = k0_pay8 x0 x1 x2 := by
  unfold Router.rest
  rw [View.ld_unit_lit _ x0 (by decide), View.ld_unit_lit _ x1 (by decide), View.ld_unit_lit _ x2 (by decide)]
theorem second_eq : Router.second x0 x1 x2 = k0_pay9 x0 x1 x2 := by
  unfold Router.second
  rw [View.ld_unit_lit _ x0 (by decide), View.ld_unit_lit _ x1 (by decide), View.ld_unit_lit _ x2 (by decide)]
theorem hotw_eq : Router.hotw x0 x1 x2 = k0_pay10 x0 x1 x2 := by
  unfold Router.hotw
  rw [View.ld_unit_lit _ x0 (by decide), View.ld_unit_lit _ x1 (by decide), View.ld_unit_lit _ x2 (by decide)]

variable {x0 x1 x2} {q : Choice} (hq : Top q (logits x0 x1 x2))
include hq

theorem max_logit (t : Fin 2048) :
    Finset.fold max (Ideal.ofBits FTy.f32 4286578688#32) (fun x => k0_pay5 (F := Ideal) x0 x1 x2 (ix2 t x)) Finset.univ = logits x0 x1 x2 t (q.fst t) := by
  rw [neg_inf]; exact hq.max t

theorem hot1 (t : Fin 2048) (e : Fin 8) : k0_pay11 (F := Ideal) (Router.hotw x0 x1 x2) (ix2 t e) = ((if e = q.fst t then 1 else 0 : ℕ) : EReal) := by
  rw [hotw_eq]
  pointwise [k0_pay11, k0_pay10, k0_pay7]
  rw [max_logit hq, sitofp_bit]
  exact congrArg _ (if_congr (hq.fst_iff t e) rfl rfl)

theorem rest_apply (t : Fin 2048) (e : Fin 8) : Router.rest x0 x1 x2 (ix2 t e) = if e = q.fst t then ⊥ else logits x0 x1 x2 t e := by
  rw [rest_eq]
  pointwise [k0_pay8, k0_pay7]
  rw [max_logit hq, neg_inf]
  exact if_congr (hq.fst_iff t e) rfl rfl

theorem second_apply (t : Fin 2048) : Router.second x0 x1 x2 (ix2 t 0) = logits x0 x1 x2 t (q.snd t) := by
  rw [second_eq]
  pointwise [k0_pay9]
  rw [neg_inf, ← rest_eq]
  exact hq.max_rest t _ (rest_apply hq t)

theorem hot2 (t : Fin 2048) (e : Fin 8) :
    k0_pay12 (F := Ideal) (Router.rest x0 x1 x2) (Router.second x0 x1 x2) (ix2 t e) = ((if e = q.snd t then 1 else 0 : ℕ) : EReal) := by
  pointwise [k0_pay12]
  rw [second_apply hq, sitofp_bit]
  exact congrArg _ (if_congr (hq.snd_iff t _ (rest_apply hq t) e) rfl rfl)

theorem both_apply (t : Fin 2048) (e : Fin 8) : Router.both x0 x1 x2 (ix2 t e) = ((q.bitN e t.val : ℕ) : EReal) := by
  have h1 := hot1 hq t e
  have h2 := hot2 hq t e
  unfold Router.both
  pointwise [k0_pay16]
  rw [h1, h2, add_nat, bitN_val]
  rfl

theorem cnt_apply (e : Fin 8) : Router.cnt x0 x1 x2 (ix2 0 e) = BitVec.ofNat 32 (q.count e + 511) := by
  have h := fun t => both_apply hq t e
  have hc := count_le q e
  unfold Router.both at h
  unfold Router.cnt
  pointwise [k0_pay17]
  have hsum : (∑ t : Fin 2048, k0_pay16 (F := Ideal) (Router.rest x0 x1 x2) (Router.second x0 x1 x2) (Router.hotw x0 x1 x2) (ix2 t e)) = ((q.count e : ℕ) : EReal) :=
    (Finset.sum_congr rfl fun t _ => (h t).trans (congrArg _ (bitN_val q t e))).trans (sum_nat _ _)
  rw [hsum]
  exact plus_511 hc

theorem room_apply (e : Fin 8) :
    k0_pay21 (F := Ideal) (Router.cnt x0 x1 x2) 512#32 (k0_pay18 (Router.rest x0 x1 x2) (Router.second x0 x1 x2) (Router.hotw x0 x1 x2)) (k0_pay19 (Router.rest x0 x1 x2) (Router.second x0 x1 x2) (Router.hotw x0 x1 x2)) k0_pay20 (ix2 0 e)
      = ((q.room e : ℕ) : EReal) := by
  have h := cnt_apply hq e
  have hc := count_le q e
  unfold Router.cnt at h ⊢
  pointwise [k0_pay21, k0_pay18, k0_pay19, k0_pay20]
  rw [h, round_up hc, sitofp_nat (by omega)]
  rfl

theorem ends_apply (e : Fin 8) : Router.ends x0 x1 x2 (ix2 0 e) = ((q.stop e : ℕ) : EReal) := by
  have h := fun e => room_apply hq e
  unfold Router.ends
  pointwise [k0_pay22]
  have h2 : ∀ x : Fin 8, (FloatOps.sitofp FTy.f32 (BitVec.setWidth 32 (IntOp.cmpi .sle (BitVec.ofNat 32 x.val) (BitVec.ofNat 32 e.val))) : Ideal .f32)
      = ((if x ≤ e then 1 else 0 : ℕ) : EReal) := fun x => by
    rw [sle_nat (by omega) (by omega), sitofp_bit]
    rfl
  rw [Finset.sum_congr rfl fun x _ => by rw [h x, h2 x, mul_nat], sum_nat]
  refine congrArg _ (Finset.sum_congr rfl fun x _ => ?_)
  rw [mul_ite, mul_one, mul_zero]

theorem offs_apply (e : Fin 8) : Router.offs x0 x1 x2 (ix2 0 e) = ((q.start e : ℕ) : EReal) := by
  have h := room_apply hq e
  have h1 := ends_apply hq e
  unfold Router.ends at h1
  unfold Router.offs
  pointwise [k0_pay23]
  rw [h, h1, sub_nat (room_le_stop q e)]
  rfl

theorem slots_apply (t : Fin 2048) (e : Fin 8) : Router.slots x0 x1 x2 (ix2 t e) = ((q.place t e : ℕ) : EReal) := by
  have h := offs_apply hq e
  have h1 := ranks_apply (both_apply hq) t e
  unfold Router.slots
  pointwise [k0_pay1]
  rw [h, h1, add_nat]
  rfl

/-- The block owners. -/
theorem owner_apply (b : Fin 32) : k0_pay4 (F := Ideal) (Router.ends x0 x1 x2) (ix2 b 0) = BitVec.ofNat 32 (q.owner (512 * b.val)) := by
  have h := fun e => ends_apply hq e
  pointwise [k0_pay4]
  have h2 : (FloatOps.sitofp FTy.f32 (IntOp.muli (BitVec.ofNat 32 b.val) 512#32) : Ideal .f32) = ((512 * b.val : ℕ) : EReal) := by
    rw [show IntOp.muli (BitVec.ofNat 32 b.val) 512#32 = BitVec.ofNat 32 (512 * b.val) from
      ((BitVec.ofNat_mul_ofNat b.val 512).trans (by rw [mul_comm])), sitofp_nat (by omega)]
  refine (Finset.fold_congr fun x _ => ?_).trans (fold_bits fun e => q.stop e ≤ 512 * b.val)
  show BitVec.setWidth 32 (BitVec.ofBool (decide (Router.ends x0 x1 x2 (ix2 0 x) ≤ (FloatOps.sitofp FTy.f32 (IntOp.muli (BitVec.ofNat 32 b.val) 512#32) : Ideal .f32)))) = _
  simp only [h, h2, le_nat]

/-- A sum over the experts of a value times a choice's bit picks the value at the choice. -/
theorem sum_pick (v : Fin 8 → EReal) (i : Fin 8) : ∑ e, v e * ((if e = i then 1 else 0 : ℕ) : EReal) = v i := by
  rw [Finset.sum_eq_single i (fun e _ he => by rw [if_neg he, Nat.cast_zero, mul_zero]) (fun h => absurd (Finset.mem_univ i) h),
    if_pos rfl, Nat.cast_one, mul_one]

theorem place1_apply (t : Fin 2048) : Router.out0_6 x0 x1 x2 x3 (ix2 t 0) = BitVec.ofNat 32 (q.place t (q.fst t)) := by
  have h := fun e => slots_apply hq t e
  have h1 := fun e => hot1 hq t e
  have hlt := place_lt q t _ (bit_fst q t)
  unfold Router.out0_6
  rw [View.canon_cons_unit_lit _ _ _ (by decide)]
  pointwise [k0_pay2]
  rw [Finset.sum_congr rfl fun e _ => by rw [h e, h1 e], sum_pick hq (fun e => ((q.place t e : ℕ) : EReal)), fptosi_nat (by omega)]

theorem place2_apply (t : Fin 2048) : Router.out0_7 x0 x1 x2 x3 (ix2 t 0) = BitVec.ofNat 32 (q.place t (q.snd t)) := by
  have h := fun e => slots_apply hq t e
  have h1 := fun e => hot2 hq t e
  have hlt := place_lt q t _ (bit_snd q t)
  unfold Router.out0_7
  rw [View.canon_cons_unit_lit _ _ _ (by decide)]
  pointwise [k0_pay3]
  rw [Finset.sum_congr rfl fun e _ => by rw [h e, h1 e], sum_pick hq (fun e => ((q.place t e : ℕ) : EReal)), fptosi_nat (by omega)]

theorem weight_apply (t : Fin 2048) (e : Fin 8) :
    k0_pay13 (F := Ideal) (Router.probs x0 x1 x2) (Router.rest x0 x1 x2) (Router.second x0 x1 x2) (Router.hotw x0 x1 x2) x3 (ix2 t e)
      = Ideal.div (k0_pay6 x0 x1 x2 (ix2 t e) * ((q.bit t e : ℕ) : EReal)) (factor (fun e => k0_pay6 x0 x1 x2 (ix2 t e)) (q.bit t)) * x3 (ix2 0 e) := by
  have h1 := fun e => hot1 hq t e
  have h2 := fun e => hot2 hq t e
  have hb : ∀ e, k0_pay11 (F := Ideal) (Router.hotw x0 x1 x2) (ix2 t e) + k0_pay12 (F := Ideal) (Router.rest x0 x1 x2) (Router.second x0 x1 x2) (ix2 t e)
      = ((q.bit t e : ℕ) : EReal) := fun e => by rw [h1, h2, add_nat]; rfl
  rw [probs_eq]
  pointwise [k0_pay13]
  simp only [hb]
  rfl

theorem weight1_apply (t : Fin 2048) : Router.out0_4 x0 x1 x2 x3 (ix2 t 0)
    = Ideal.div (k0_pay6 x0 x1 x2 (ix2 t (q.fst t))) (factor (fun e => k0_pay6 x0 x1 x2 (ix2 t e)) (q.bit t)) * x3 (ix2 0 (q.fst t)) := by
  have h1 := fun e => hot1 hq t e
  have hw := fun e => weight_apply x3 hq t e
  unfold Router.out0_4
  rw [View.canon_cons_unit_lit _ _ _ (by decide), View.ld_unit_lit _ x3 (by decide)]
  pointwise [k0_pay14]
  rw [Finset.sum_congr rfl fun e _ => by rw [h1 e]]
  rw [sum_pick hq, hw, bit_fst, Nat.cast_one, mul_one]

theorem weight2_apply (t : Fin 2048) : Router.out0_5 x0 x1 x2 x3 (ix2 t 0)
    = Ideal.div (k0_pay6 x0 x1 x2 (ix2 t (q.snd t))) (factor (fun e => k0_pay6 x0 x1 x2 (ix2 t e)) (q.bit t)) * x3 (ix2 0 (q.snd t)) := by
  have h1 := fun e => hot2 hq t e
  have hw := fun e => weight_apply x3 hq t e
  unfold Router.out0_5
  rw [View.canon_cons_unit_lit _ _ _ (by decide), View.ld_unit_lit _ x3 (by decide)]
  pointwise [k0_pay15]
  rw [Finset.sum_congr rfl fun e _ => by rw [h1 e]]
  rw [sum_pick hq, hw, bit_snd, Nat.cast_one, mul_one]

end Cert.KernelIdeal.Val
end
end
-- ==== Proof.Value.Blocks.lean ====
module

public import proofs.«01_k».proof.Proof.Value.Collect
public import proofs.«01_k».proof.Proof.Value.Router
public import proofs.«01_k».proof.Proof.KernelIdeal.Table

/-! # The blocks that the grouped product call reads, and its conditions, as numbers -/

@[expose] public section
set_option maxRecDepth 16384

noncomputable section
namespace Cert.KernelIdeal.Val

open Cert.KernelIdeal Cert.KernelIdeal.Gen Cert.Words Cert.Routing Cert.Spec
open Idealize.ShloMosaic Idealize.ShloMosaic.TcCoe

variable (a : (pcfg1 (F := Ideal)).Adm) (W : Dev nD → Valuation τ sig (Elt Ideal)) (c : Dev nD) (t : Fin (cfg1 a).N)

theorem read0 : (Gmm.iblk a W c 0 t : Vec Ideal S2048x768 .bf16) = W c main_v10 := by
  funext j; exact congrArg (W c main_v10) (funext fun x => Fin.ext (((cfg1 a).win (0 : Fin 9)).rect_emb_val_of_index_zero t x (by fin_cases x <;> rfl) j))
theorem read1 : (Gmm.iblk a W c 1 t : Vec Ideal S2048x1 .i32) = W c main_v3_2 := by
  funext j; exact congrArg (W c main_v3_2) (funext fun x => Fin.ext (((cfg1 a).win (1 : Fin 9)).rect_emb_val_of_index_zero t x (by fin_cases x <;> rfl) j))
theorem read2 : (Gmm.iblk a W c 2 t : Vec Ideal S2048x1 .i32) = W c main_v3_3 := by
  funext j; exact congrArg (W c main_v3_3) (funext fun x => Fin.ext (((cfg1 a).win (2 : Fin 9)).rect_emb_val_of_index_zero t x (by fin_cases x <;> rfl) j))
theorem read3 : (Gmm.iblk a W c 3 t : Vec Ideal S2048x1 .f32) = W c main_v3_0 := by
  funext j; exact congrArg (W c main_v3_0) (funext fun x => Fin.ext (((cfg1 a).win (3 : Fin 9)).rect_emb_val_of_index_zero t x (by fin_cases x <;> rfl) j))
theorem read4 : (Gmm.iblk a W c 4 t : Vec Ideal S2048x1 .f32) = W c main_v3_1 := by
  funext j; exact congrArg (W c main_v3_1) (funext fun x => Fin.ext (((cfg1 a).win (4 : Fin 9)).rect_emb_val_of_index_zero t x (by fin_cases x <;> rfl) j))

variable (e : Fin 8) (he : (Scalar.minsi (Gmm.word (grid1.coords t) (a.1 0)) 7#32).toNat = e.val) (f : Fin 2048) (d : Fin 768)
include he

theorem read5 : (Gmm.iblk a W c 5 t : Vec Ideal S1x2048x768 .bf16) (ix3 0 f d) = (W c main_v6 : Vec Ideal S8x2048x768 .bf16) (ix3 e f d) := by
  refine congrArg (W c main_v6) (funext (α := Fin 3) fun x => Fin.ext ((((cfg1 a).win (5 : Fin 9)).rect_emb_val t _ x rfl).trans ?_))
  match x with
  | 0 => exact (congrArg (fun v => v * 1 + 0) he).trans (by show e.val * 1 + 0 = e.val; omega)
  | 1 => show 0 * 2048 + f.val = f.val; omega
  | 2 => show 0 * 768 + d.val = d.val; omega
theorem read6 : (Gmm.iblk a W c 6 t : Vec Ideal S1x2048x768 .bf16) (ix3 0 f d) = (W c main_v8 : Vec Ideal S8x2048x768 .bf16) (ix3 e f d) := by
  refine congrArg (W c main_v8) (funext (α := Fin 3) fun x => Fin.ext ((((cfg1 a).win (6 : Fin 9)).rect_emb_val t _ x rfl).trans ?_))
  match x with
  | 0 => exact (congrArg (fun v => v * 1 + 0) he).trans (by show e.val * 1 + 0 = e.val; omega)
  | 1 => show 0 * 2048 + f.val = f.val; omega
  | 2 => show 0 * 768 + d.val = d.val; omega
theorem read7 : (Gmm.iblk a W c 7 t : Vec Ideal S1x2048x768 .bf16) (ix3 0 f d) = (W c main_v9 : Vec Ideal S8x2048x768 .bf16) (ix3 e f d) := by
  refine congrArg (W c main_v9) (funext (α := Fin 3) fun x => Fin.ext ((((cfg1 a).win (7 : Fin 9)).rect_emb_val t _ x rfl).trans ?_))
  match x with
  | 0 => exact (congrArg (fun v => v * 1 + 0) he).trans (by show e.val * 1 + 0 = e.val; omega)
  | 1 => show 0 * 2048 + f.val = f.val; omega
  | 2 => show 0 * 768 + d.val = d.val; omega

omit he
theorem first_iff : ∀ t : Fin grid1.N, k1_cond2 (grid1.coords t) = 1#1 ↔ t.val = 0 := by decide +kernel

theorem coord_eq : ∀ t : Fin grid1.N, (grid1.coords t 0).val = t.val := by decide +kernel

/-- A block works exactly if its owner is one of the eight experts. -/
theorem live_iff {n : ℕ} (h : n ≤ 8) : k1_cond1 (BitVec.ofNat 32 n) = 1#1 ↔ n < 8 := by
  interval_cases n <;> decide

theorem word_eq (t : Fin grid1.N) (T : S32.Idx → Elt Ideal .i32) (h : t.val < 32) : Gmm.word (grid1.coords t) T = T (Idealize.ShloMosaic.ix1 ⟨t.val, h⟩) := by
  refine congrArg T (funext (α := Fin 1) fun x => Fin.ext ?_)
  match x with
  | 0 =>
    have e := coord_eq t
    have h2 : (grid1.coords t 0).val < 2 ^ 32 := by omega
    show (BitVec.toNat (BitVec.ofNat 32 (grid1.coords t 0).val)) + 0 * 1 = t.val
    rw [BitVec.toNat_ofNat, Nat.mod_eq_of_lt h2]
    omega

end Cert.KernelIdeal.Val
end
end
-- ==== Proof.Value.Trail.lean ====
module

public import proofs.«01_k».proof.Proof.Value.Blocks

/-! # The output block after the sixteen points -/

@[expose] public section
set_option maxRecDepth 16384

noncomputable section
namespace Cert.KernelIdeal.Val

open Cert.KernelIdeal Cert.KernelIdeal.Gen Cert.Words Cert.Routing Cert.Spec
open Idealize.ShloMosaic Idealize.ShloMosaic.TcCoe

variable (a : (pcfg1 (F := Ideal)).Adm) (W : Dev nD → Valuation τ sig (Elt Ideal)) (c : Dev nD) (q : Choice)
  (hw : ∀ n : Fin 32, (a.1 0 : Vec Ideal S32 .i32) (Idealize.ShloMosaic.ix1 n) = BitVec.ofNat 32 (q.owner (512 * n.val)))
  (h1 : ∀ t : Fin 2048, (W c main_v3_2 : Vec Ideal S2048x1 .i32) (ix2 t 0) = BitVec.ofNat 32 (pa q t))
  (h2 : ∀ t : Fin 2048, (W c main_v3_3 : Vec Ideal S2048x1 .i32) (ix2 t 0) = BitVec.ofNat 32 (pb q t))

/-- Expert `e`'s network on row `t`, weighed by the row's weight in the column `cw`. -/
def share (cw : Vec Ideal S2048x1 .f32) (t : Fin 2048) (d : Fin 768) (e : Fin 8) : EReal :=
  ffn (fun d => (W c main_v10 : Vec Ideal S2048x768 .bf16) (ix2 t d)) (fun f d => (W c main_v6 : Vec Ideal S8x2048x768 .bf16) (ix3 e f d))
    (fun f d => (W c main_v8 : Vec Ideal S8x2048x768 .bf16) (ix3 e f d)) (fun f d => (W c main_v9 : Vec Ideal S8x2048x768 .bf16) (ix3 e f d)) d * cw (ix2 t 0)

/-- What block `n` adds to row `t`. -/
def adds (t : Fin 2048) (d : Fin 768) (n : ℕ) : EReal :=
  (if pa q t / 512 = n then share W c (W c main_v3_0) t d (expert q n) else 0) + (if pb q t / 512 = n then share W c (W c main_v3_1) t d (expert q n) else 0)

include hw in
theorem word_of (n : Fin grid1.N) : Gmm.word (grid1.coords n) (a.1 0) = BitVec.ofNat 32 (q.owner (512 * n.val)) := by
  have hn : n.val < 32 := lt_of_lt_of_le n.isLt (N_1.trans_le (by decide))
  exact (word_eq n _ hn).trans (hw ⟨n.val, hn⟩)

include hw in
theorem min_word (n : Fin grid1.N) : (Scalar.minsi (Gmm.word (grid1.coords n) (a.1 0)) 7#32).toNat = (expert q n.val).val := by
  have h8 := owner_le q (512 * n.val)
  have hv : (BitVec.ofNat 32 (q.owner (512 * n.val))).toNat = q.owner (512 * n.val) := by rw [BitVec.toNat_ofNat]; omega
  rw [word_of a q hw, Run.minsi_le _ (by rw [hv]; omega), hv]
  rfl

include hw h1 h2 in
theorem part_at (n : Fin grid1.N) (t : Fin 2048) (d : Fin 768) :
    Gmm.part (F := Ideal) (grid1.coords n) (Gmm.iblk a W c 0 n) (Gmm.iblk a W c 1 n) (Gmm.iblk a W c 2 n) (Gmm.iblk a W c 3 n) (Gmm.iblk a W c 4 n)
      (Gmm.iblk a W c 5 n) (Gmm.iblk a W c 6 n) (Gmm.iblk a W c 7 n) (ix2 t d) = adds W c q t d n.val := by
  have hn : n.val < 16 := lt_of_lt_of_eq n.isLt N_1
  have r1 := fun t => (congrFun (read1 a W c n) (ix2 t 0)).trans (h1 t)
  have r2 := fun t => (congrFun (read2 a W c n) (ix2 t 0)).trans (h2 t)
  unfold Gmm.part
  rw [coord_eq]
  refine (part_apply hn (pa_lt q) (pb_lt q) r1 r2 t d).trans ((block_sum q _ _ _ _ _ _ n.val t d).trans ?_)
  have e5 := fun f d => read5 a W c n (expert q n.val) (min_word a q hw n) f d
  have e6 := fun f d => read6 a W c n (expert q n.val) (min_word a q hw n) f d
  have e7 := fun f d => read7 a W c n (expert q n.val) (min_word a q hw n) f d
  have e0 := read0 a W c n
  have e3 := read3 a W c n
  have e4 := read4 a W c n
  unfold adds share
  simp only [e0, e3, e4, e5, e6, e7]

theorem more_at (n : Fin grid1.N) (x0 x1 x2 x3 x4 x5 x6 x7 Y) (t : Fin 2048) (d : Fin 768) :
    Gmm.more (F := Ideal) (grid1.coords n) x0 x1 x2 x3 x4 x5 x6 x7 Y (ix2 t d) = Y (ix2 t d) + Gmm.part (grid1.coords n) x0 x1 x2 x3 x4 x5 x6 x7 (ix2 t d) := by
  unfold Gmm.more Gmm.part
  pointwise [k1_pay2, k1_pay1]

include hw h1 h2 in
theorem step_at (n : Fin grid1.N) (Y : Vec Ideal S2048x768 .f32) (t : Fin 2048) (d : Fin 768) :
    Gmm.step a W c n Y (ix2 t d)
      = if q.owner (512 * n.val) < 8 then (if n.val = 0 then adds W c q t d n.val else Y (ix2 t d) + adds W c q t d n.val) else Y (ix2 t d) := by
  unfold Gmm.step Gmm.next
  rw [word_of a q hw n]
  by_cases h8 : q.owner (512 * n.val) < 8
  · rw [if_pos ((live_iff (owner_le q _)).2 h8), if_pos h8]
    by_cases h0 : n.val = 0
    · rw [if_pos ((first_iff n).2 h0), if_pos h0]
      exact part_at a W c q hw h1 h2 n t d
    · rw [if_neg (mt (first_iff n).1 h0), if_neg h0]
      exact (more_at n _ _ _ _ _ _ _ _ _ t d).trans (congrArg _ (part_at a W c q hw h1 h2 n t d))
  · rw [if_neg (mt (live_iff (owner_le q _)).1 h8), if_neg h8]

include hw h1 h2 in
theorem traj_at (Y₀ : Vec Ideal S2048x768 .f32) (t : Fin 2048) (d : Fin 768) (n : ℕ) (hn : n + 1 ≤ 16) :
    Gmm.traj a W c Y₀ (n + 1) (ix2 t d) = ∑ i ∈ Finset.range (n + 1), if q.owner (512 * i) < 8 then adds W c q t d i else 0 := by
  have hN : n < (cfg1 a).N := by show n < grid1.N; rw [N_1]; omega
  have hs : Gmm.traj a W c Y₀ (n + 1) = Gmm.step a W c ⟨n, hN⟩ (Gmm.traj a W c Y₀ n) := dif_pos hN
  rw [hs, Finset.sum_range_succ]
  refine (step_at a W c q hw h1 h2 ⟨n, hN⟩ _ t d).trans ?_
  induction n with
  | zero =>
    show (if q.owner (512 * 0) < 8 then (if 0 = 0 then _ else _) else _) = _
    rw [if_pos (owner_zero q), if_pos rfl, if_pos (owner_zero q), Finset.sum_range_zero, zero_add]
  | succ k ih =>
    have hN' : k < (cfg1 a).N := by show k < grid1.N; rw [N_1]; omega
    have hs' : Gmm.traj a W c Y₀ (k + 1) = Gmm.step a W c ⟨k, hN'⟩ (Gmm.traj a W c Y₀ k) := dif_pos hN'
    have h := ih (by omega) hN' hs'
    rw [← step_at a W c q hw h1 h2 ⟨k, hN'⟩ _ t d, ← hs', ← Finset.sum_range_succ] at h
    rw [h]
    show (if q.owner (512 * (k + 1)) < 8 then (if k + 1 = 0 then _ else _) else _) = _
    rw [if_neg (Nat.succ_ne_zero k)]
    by_cases h8 : q.owner (512 * (k + 1)) < 8
    · rw [if_pos h8, if_pos h8]
    · rw [if_neg h8, if_neg h8, add_zero]

include hw h1 h2 in
/-- After the last point a row holds the sum of its two experts' weighed results. -/
theorem traj_end (Y₀ : Vec Ideal S2048x768 .f32) (t : Fin 2048) (d : Fin 768) :
    Gmm.traj a W c Y₀ 16 (ix2 t d) = share W c (W c main_v3_0) t d (q.fst t) + share W c (W c main_v3_1) t d (q.snd t) :=
  (traj_at a W c q hw h1 h2 Y₀ t d 15 (le_refl _)).trans (collect q (share W c (W c main_v3_0) t d) (share W c (W c main_v3_1) t d) t)

end Cert.KernelIdeal.Val
end
end
-- ==== Proof.Value.Reference.lean ====
module

public import proofs.«01_k».proof.Proof.Gen.ReferenceIdeal.Read
public import proofs.«01_k».proof.Proof.Gen.Pre_choices_untied
public import proofs.«01_k».proof.Proof.Gen.ReferenceIdeal
public import proofs.«01_k».proof.Proof.Value.Top
public import proofs.«01_k».proof.Proof.Value.Spec

/-! # The reference read at an index, and what the precondition says of its logits -/

@[expose] public section
set_option maxRecDepth 16384

noncomputable section
namespace Cert.ReferenceIdeal.Val

open Cert.ReferenceIdeal Cert.ReferenceIdeal.Read Cert.Words Cert.Routing Cert.Spec
open Idealize.ShloMosaic

variable (x0 : FVec Ideal S1x2048x768 .f32) (x1 : FVec Ideal S768 .f32) (x2 : FVec Ideal S8 .f32) (x3 : FVec Ideal S768x8 .f32)
  (x4 : FVec Ideal S8x2x2048x768 .f32) (x5 : FVec Ideal S8x2048x768 .f32)

/-- A row's logits. -/
def logits (t : Fin 2048) (e : Fin 8) : EReal :=
  ∑ x, x0 (ix3 0 t x) * Ideal.rsqrt (Ideal.div (∑ x, x0 (ix3 0 t x) * x0 (ix3 0 t x)) (Ideal.ofBits FTy.f32 1145044992#32) + Ideal.ofBits FTy.f32 897988541#32)
    * Ideal.rsqrt (Ideal.ofBits FTy.f32 1145044992#32) * x1 (Idealize.ShloMosaic.ix1 x) * x3 (ix2 x e)

/-- A row's probabilities, from its logits. -/
def probs (l : Fin 8 → EReal) (e : Fin 8) : EReal :=
  Ideal.div (Ideal.exp (l e - max (Ideal.ofBits FTy.f32 4286578688#32) (Finset.fold max (Ideal.ofBits FTy.f32 4286578688#32) (fun x => l x) Finset.univ)))
    (∑ y, Ideal.exp (l y - max (Ideal.ofBits FTy.f32 4286578688#32) (Finset.fold max (Ideal.ofBits FTy.f32 4286578688#32) (fun x => l x) Finset.univ)))

theorem logits_eq (t : Fin 2048) (e : Fin 8) : val_main_v16 (F := Ideal) x0 x1 x3 (ix3 0 t e) = logits x0 x1 x3 t e := by
  unfold logits
  pointwise [val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]

theorem probs_eq (t : Fin 2048) (e : Fin 8) : val_main_v27 (F := Ideal) x0 x1 x3 (ix3 0 t e) = probs (logits x0 x1 x3 t) e := by
  have h := logits_eq x0 x1 x3 t
  unfold probs
  pointwise [val_main_v27, val_main_v26, val_main_v25, val_main_v24, val_main_v23, val_main_v22, val_main_v21, val_main_v20, val_main_v19, val_main_v18, val_main_v17,
    val_main_cst_3, val_main_cst_4, val_main_cst_5]
  simp only [h]

/-- The number of a row's logits above one of them, as the program counts it. -/
theorem count_larger (l : Fin 8 → EReal) (e : Fin 8) :
    Finset.fold IntOp.addi 0#32 (fun x => BitVec.setWidth 32 (BitVec.ofBool (decide (l e < l x)))) Finset.univ = BitVec.ofNat 32 (larger l e) :=
  fold_bits fun x => l e < l x

theorem larger_le (l : Fin 8 → EReal) (e : Fin 8) : larger l e ≤ 8 := by
  have h : larger l e ≤ ∑ _x : Fin 8, 1 := Finset.sum_le_sum fun x _ => by split_ifs <;> omega
  simpa using h

variable {x0 x1 x3} {q : Choice} (hq : Top q (logits x0 x1 x3))
include hq

theorem chosen_eq (t : Fin 2048) (e : Fin 8) : val_main_v37 (F := Ideal) x0 x1 x3 (ix3 0 t e) = ((q.bit t e : ℕ) : EReal) := by
  have h := logits_eq x0 x1 x3 t
  have hl := larger_le (logits x0 x1 x3 t) e
  pointwise [val_main_v37, val_main_v36, val_main_v35, val_main_v34, val_main_v33, val_main_v32, val_main_v31, val_main_v30, val_main_v29, val_main_v28, val_main_c, val_main_c_6]
  simp only [h]
  rw [count_larger, slt_nat (by omega) (by decide), uitofp_bit, hq.larger_lt]

theorem weight_eq (t : Fin 2048) (e : Fin 8) :
    val_main_v45 (F := Ideal) x0 x1 x3 (ix3 0 t e) = Ideal.div (probs (logits x0 x1 x3 t) e) (factor (probs (logits x0 x1 x3 t)) (q.bit t)) := by
  have h := probs_eq x0 x1 x3 t
  have h' := chosen_eq hq t
  have h1 : (constant (F := Ideal) S_ FTy.f32 1065353216#32) ix0 = 1 := by pointwise []
  unfold factor
  pointwise [val_main_v45, val_main_v44, val_main_v43, val_main_v42, val_main_v41, val_main_v40, val_main_v39, val_main_v38, val_main_cst_7, val_main_cst_8, val_main_cst_9,
    val_main_call0_v1, val_main_call0_v0]
  simp only [h, h', id_eq, h1, mul_comm (Nat.cast _)]

omit hq in
theorem hidden_eq (t : Fin 2048) (e : Fin 8) (f : Fin 2048) : val_main_v65 (F := Ideal) x0 x4 (ix4 0 t e f)
    = act (hid (fun d => x0 (ix3 0 t d)) (fun f d => x4 (ix4 e 0 f d)) f) * hid (fun d => x0 (ix3 0 t d)) (fun f d => x4 (ix4 e 1 f d)) f := by
  have h : val_main_v48 (F := Ideal) x0 x4 (ix4 0 t e f) = hid (fun d => x0 (ix3 0 t d)) (fun f d => x4 (ix4 e 0 f d)) f := by
    unfold hid
    pointwise [val_main_v48, val_main_v47, val_main_v46]
  unfold act
  pointwise [val_main_v65, val_main_v64, val_main_v63, val_main_v62, val_main_v61, val_main_v60, val_main_v59, val_main_v58, val_main_v57, val_main_v56, val_main_v55,
    val_main_v54, val_main_v53, val_main_v52, val_main_v51, val_main_v50, val_main_v49, val_main_cst_10, val_main_cst_11, val_main_cst_12, val_main_cst_13]
  simp only [h]
  rfl

/-- Expert `e`'s network on row `t`, times the expert's scale and the row's weight for it. -/
def part (q : Choice) (x0 : FVec Ideal S1x2048x768 .f32) (x1 : FVec Ideal S768 .f32) (x2 : FVec Ideal S8 .f32) (x3 : FVec Ideal S768x8 .f32)
    (x4 : FVec Ideal S8x2x2048x768 .f32) (x5 : FVec Ideal S8x2048x768 .f32) (t : Fin 2048) (d : Fin 768) (e : Fin 8) : EReal :=
  ffn (fun d => x0 (ix3 0 t d)) (fun f d => x4 (ix4 e 0 f d)) (fun f d => x4 (ix4 e 1 f d)) (fun f d => x5 (ix3 e f d)) d * x2 (Idealize.ShloMosaic.ix1 e)
    * Ideal.div (probs (logits x0 x1 x3 t) e) (factor (probs (logits x0 x1 x3 t)) (q.bit t))

omit hq in
/-- A sum over the experts of what a row's choices pick is the two picked values. -/
theorem sum_choice (q : Choice) (t : Fin 2048) (A B : Fin 8 → EReal) :
    ∑ e, A e * (((q.bit t e : ℕ) : EReal) * B e) = A (q.fst t) * B (q.fst t) + A (q.snd t) * B (q.snd t) := by
  have hb1 := bit_fst q t
  have hb2 := bit_snd q t
  rw [← Finset.sum_subset (Finset.subset_univ {q.fst t, q.snd t}) fun e _ he => by
    have h : q.bit t e = 0 := by
      unfold Choice.bit
      rw [if_neg fun h => he (by rw [h]; exact Finset.mem_insert_self _ _), if_neg fun h => he (by rw [h]; exact Finset.mem_insert_of_mem (Finset.mem_singleton_self _))]
    rw [h, Nat.cast_zero, zero_mul, mul_zero]]
  rw [Finset.sum_pair (q.ne t), hb1, hb2, Nat.cast_one, one_mul, one_mul]

theorem result_eq (g : Fin 1) (t : Fin 2048) (d : Fin 768) :
    val_main_v76 (F := Ideal) x0 x1 x2 x3 x4 x5 (ix3 g t d) = part q x0 x1 x2 x3 x4 x5 t d (q.fst t) + part q x0 x1 x2 x3 x4 x5 t d (q.snd t) := by
  have h := chosen_eq hq t
  have h' := weight_eq hq t
  have h'' := hidden_eq (x0 := x0) x4 t
  obtain rfl : g = 0 := Subsingleton.elim _ _
  refine Eq.trans ?_ (sum_choice q t (fun e => ffn (fun d => x0 (ix3 0 t d)) (fun f d => x4 (ix4 e 0 f d)) (fun f d => x4 (ix4 e 1 f d)) (fun f d => x5 (ix3 e f d)) d * x2 (Idealize.ShloMosaic.ix1 e))
    (fun e => Ideal.div (probs (logits x0 x1 x3 t) e) (factor (probs (logits x0 x1 x3 t)) (q.bit t))))
  unfold ffn
  pointwise [val_main_v76, val_main_v75, val_main_v71, val_main_v74, val_main_v73, val_main_v72, val_main_v70, val_main_v69, val_main_v68, val_main_v67, val_main_v66, val_main_cst_14]
  simp only [h, h', h'']
  simp only [mul_comm (x5 _)]

omit hq in
theorem and_all {ι : Type} (s : Finset ι) (f : ι → BitVec 1) (h : Finset.fold IntOp.andi 1#1 f s = 1#1) : ∀ x ∈ s, f x = 1#1 := by
  classical
  induction s using Finset.induction_on with
  | empty => intro x hx; exact absurd hx (Finset.notMem_empty x)
  | insert a s ha ih =>
    rw [Finset.fold_insert ha] at h
    have h2 : ∀ u v : BitVec 1, IntOp.andi u v = 1#1 → u = 1#1 ∧ v = 1#1 := by decide
    obtain ⟨h3, h4⟩ := h2 _ _ h
    intro x hx
    rcases Finset.mem_insert.1 hx with rfl | hx
    · exact h3
    · exact ih h4 x hx

omit hq in
/-- If exactly one expert passes a test, as the program counts, then exactly one does. -/
theorem one_passes (p : Fin 8 → ℕ) (k : ℕ) (hp : ∀ e, p e ≤ 8) (hk : k < 2)
    (h : IntOp.cmpi .eq (Finset.fold IntOp.addi 0#32 (fun e => BitVec.setWidth 32 (IntOp.cmpi .eq (BitVec.ofNat 32 (p e)) (BitVec.ofNat 32 k))) Finset.univ) 1#32 = 1#1) :
    ∃! e, p e = k := by
  have h1 : ∀ e, IntOp.cmpi .eq (BitVec.ofNat 32 (p e)) (BitVec.ofNat 32 k) = BitVec.ofBool (decide (p e = k)) := fun e => by
    have := hp e
    exact eq_nat (by omega) (by omega)
  simp only [h1] at h
  rw [fold_bits fun e => p e = k] at h
  have h2 : (∑ e, if p e = k then 1 else 0) ≤ 8 := by
    have h : (∑ e, if p e = k then 1 else 0) ≤ ∑ _e : Fin 8, 1 := Finset.sum_le_sum fun x _ => by split_ifs <;> omega
    simpa using h
  rw [show (1#32 : BitVec 32) = BitVec.ofNat 32 1 from rfl, eq_nat (by omega) (by decide), bit_eq_one, ← Finset.card_filter, Finset.card_eq_one] at h
  obtain ⟨e, he⟩ := h
  have hm : ∀ e', p e' = k ↔ e' = e := fun e' => by
    have h : e' ∈ Finset.filter (fun e => p e = k) Finset.univ ↔ e' ∈ ({e} : Finset (Fin 8)) := by rw [he]
    simpa using h
  exact ⟨e, (hm e).2 rfl, fun e' he' => (hm e').1 he'⟩

omit hq in
/-- The precondition as the program computes it. -/
theorem pre_read [Cert.Pre_choices_untied.Facts] : Cert.Pre_choices_untied.fn (F := Ideal) x0 x1 x2 x3 x4 x5 ix0
    = Finset.fold IntOp.andi 1#1 (fun x : Fin 1 × Fin 2048 => IntOp.andi
        (IntOp.cmpi .eq (Finset.fold IntOp.addi 0#32 (fun e => BitVec.setWidth 32 (IntOp.cmpi .eq (Finset.fold IntOp.addi 0#32 (fun y => BitVec.setWidth 32 (BitVec.ofBool (decide (logits x0 x1 x3 x.2 e < logits x0 x1 x3 x.2 y)))) Finset.univ) 0#32)) Finset.univ) 1#32)
        (IntOp.cmpi .eq (Finset.fold IntOp.addi 0#32 (fun e => BitVec.setWidth 32 (IntOp.cmpi .eq (Finset.fold IntOp.addi 0#32 (fun y => BitVec.setWidth 32 (BitVec.ofBool (decide (logits x0 x1 x3 x.2 e < logits x0 x1 x3 x.2 y)))) Finset.univ) 1#32)) Finset.univ) 1#32)) Finset.univ := by
  unfold logits
  unfold Cert.Pre_choices_untied.fn
  pointwise [Cert.Pre_choices_untied.fn_part1, Cert.Pre_choices_untied.fn_part2]

omit hq in
/-- Under the precondition every row has a first and a second choice. -/
theorem exists_choice [Cert.Pre_choices_untied.Facts] (h : Cert.Pre_choices_untied.fn (F := Ideal) x0 x1 x2 x3 x4 x5 = fun _ => 1#1) : ∃ q, Top q (logits x0 x1 x3) := by
  have h0 := (pre_read x2 x4 x5).symm.trans (congrFun h ix0)
  generalize logits x0 x1 x3 = l at h0 ⊢
  simp only [count_larger] at h0
  have h2 : ∀ u v : BitVec 1, IntOp.andi u v = 1#1 → u = 1#1 ∧ v = 1#1 := by decide
  have hk := fun t => h2 _ _ (and_all _ _ h0 (0, t) (Finset.mem_univ _))
  exact exists_top l (fun t => one_passes _ 0 (larger_le (l t)) (by decide) (hk t).1) (fun t => one_passes _ 1 (larger_le (l t)) (by decide) (hk t).2)

end Cert.ReferenceIdeal.Val
end
end
-- ==== Proof.Value.Arrays.lean ====
module

public import proofs.«01_k».proof.Proof.Value.Trail
public import proofs.«01_k».proof.Proof.Value.Reference
public import proofs.«01_k».proof.Proof.KernelIdeal.Frame

/-! # The arrays that the two calls read, at an index, in terms of the arguments -/

@[expose] public section
set_option maxRecDepth 16384

noncomputable section
namespace Cert.KernelIdeal.Val

open Cert.KernelIdeal Cert.KernelIdeal.Gen Cert.KernelIdeal.Run Cert.Words Cert.Routing Cert.Spec
open Idealize.ShloMosaic Idealize.ShloMosaic.TcCoe Idealize.ShloMosaic.Tactic

variable (m : (ℓ : Loc nD τ sig) → Buf (Elt Ideal) ℓ) (c : Dev nD)

/-- The rows. -/
abbrev A0 : FVec Ideal S1x2048x768 .f32 := m (c.tc.loc main_arg0)
/-- The router's scale. -/
abbrev A1 : FVec Ideal S768 .f32 := m (c.tc.loc main_arg1)
/-- The experts' scales. -/
abbrev A2 : FVec Ideal S8 .f32 := m (c.tc.loc main_arg2)
/-- The router's weights. -/
abbrev A3 : FVec Ideal S768x8 .f32 := m (c.tc.loc main_arg3)
/-- The gates' weights. -/
abbrev A4 : FVec Ideal S8x2x2048x768 .f32 := m (c.tc.loc main_arg4)
/-- The output weights. -/
abbrev A5 : FVec Ideal S8x2048x768 .f32 := m (c.tc.loc main_arg5)

theorem rx_apply (t : Fin 2048) (d : Fin 768) : rx m c (ix2 t d) = A0 m c (ix3 0 t d) := by
  have h : rx m c = shapeCast S2048x768 (A0 m c) shapeCasts_S1x2048x768_S2048x768 := by
    unfold rx W1 V1; after_results; rfl
  rw [h]
  pointwise []
theorem rsc_apply (d : Fin 768) : rsc m c (ix2 0 d) = A1 m c (Idealize.ShloMosaic.ix1 d) := by
  have h : rsc m c = shapeCast S1x768 (A1 m c) shapeCasts_S768_S1x768 := by
    unfold rsc W1 V1; after_results; rfl
  rw [h]
  pointwise []
theorem rps_apply (e : Fin 8) : rps m c (ix2 0 e) = A2 m c (Idealize.ShloMosaic.ix1 e) := by
  have h : rps m c = shapeCast S1x8 (A2 m c) shapeCasts_S8_S1x8 := by
    unfold rps W1 V1; after_results; rfl
  rw [h]
  pointwise []
theorem rw_apply : rw_ m c = A3 m c := V1_of m c main_arg3 (by decide)

theorem W2_arg4 : W2 m c main_arg4 = A4 m c := (W2_of m c main_arg4 (by decide)).trans (V1_of m c main_arg4 (by decide))
theorem W2_arg5 : W2 m c main_arg5 = A5 m c := (W2_of m c main_arg5 (by decide)).trans (V1_of m c main_arg5 (by decide))

theorem x_apply (t : Fin 2048) (d : Fin 768) : (W3 m c main_v10 : Vec Ideal S2048x768 .bf16) (ix2 t d) = A0 m c (ix3 0 t d) := by
  have h : W3 m c main_v10 = truncf (F := Ideal) .bf16 (W2 m c main_v0 : FVec Ideal S2048x768 .f32) bitsLt_bf16_f32 := by
    unfold W3; after_results
  have h0 : W2 m c main_v0 = rx m c := W2_in m c (0 : Fin 9) rfl
  have hx := rx_apply m c t d
  rw [h, h0]
  pointwise []
  exact hx
theorem w0_apply (e : Fin 8) (f : Fin 2048) (d : Fin 768) : (W3 m c main_v6 : Vec Ideal S8x2048x768 .bf16) (ix3 e f d) = A4 m c (ix4 e 0 f d) := by
  have h : W3 m c main_v6 = shapeCast S8x2048x768 (extractStridedSlice S8x1x2048x768 ![0, 0, 0, 0] (truncf (F := Ideal) .bf16 (W2 m c main_arg4 : FVec Ideal S8x2x2048x768 .f32) bitsLt_bf16_f32) slices_S8x2x2048x768_S8x1x2048x768_0_0_0_0) shapeCasts_S8x1x2048x768_S8x2048x768 := by
    unfold W3; after_results; rfl
  rw [h, W2_arg4]
  pointwise []
theorem w1_apply (e : Fin 8) (f : Fin 2048) (d : Fin 768) : (W3 m c main_v8 : Vec Ideal S8x2048x768 .bf16) (ix3 e f d) = A4 m c (ix4 e 1 f d) := by
  have h : W3 m c main_v8 = shapeCast S8x2048x768 (extractStridedSlice S8x1x2048x768 ![0, 1, 0, 0] (truncf (F := Ideal) .bf16 (W2 m c main_arg4 : FVec Ideal S8x2x2048x768 .f32) bitsLt_bf16_f32) slices_S8x2x2048x768_S8x1x2048x768_0_1_0_0) shapeCasts_S8x1x2048x768_S8x2048x768 := by
    unfold W3; after_results; rfl
  rw [h, W2_arg4]
  pointwise []
theorem wl_apply (e : Fin 8) (f : Fin 2048) (d : Fin 768) : (W3 m c main_v9 : Vec Ideal S8x2048x768 .bf16) (ix3 e f d) = A5 m c (ix3 e f d) := by
  have h : W3 m c main_v9 = truncf (F := Ideal) .bf16 (W2 m c main_arg5 : FVec Ideal S8x2048x768 .f32) bitsLt_bf16_f32 := by
    unfold W3; after_results
  rw [h, W2_arg5]
  pointwise []

theorem W3_cw1 : W3 m c main_v3_0 = W2 m c main_v3_0 := by unfold W3; after_results
theorem W3_cw2 : W3 m c main_v3_1 = W2 m c main_v3_1 := by unfold W3; after_results
theorem W3_r1 : W3 m c main_v3_2 = W2 m c main_v3_2 := by unfold W3; after_results
theorem W3_r2 : W3 m c main_v3_3 = W2 m c main_v3_3 := by unfold W3; after_results

/-- The result array is the output block, reshaped. -/
theorem out_apply (v : Vec Ideal S2048x768 .f32) (g : Fin 1) (t : Fin 2048) (d : Fin 768) :
    (W5 m c v main_v13 : Vec Ideal S1x2048x768 .f32) (ix3 g t d) = v (ix2 t d) := by
  have h : W5 m c v main_v13 = shapeCast S1x2048x768 v shapeCasts_S2048x768_S1x2048x768 := by
    unfold W5 W4; after_results; rfl
  rw [h]
  pointwise []

/-- The router call's logits are the reference's. -/
theorem logits_match : logits (rx m c) (rsc m c) (rw_ m c) = ReferenceIdeal.Val.logits (A0 m c) (A1 m c) (A3 m c) := by
  funext t e
  have h0 := rx_apply m c
  have h1 := rsc_apply m c
  rw [rw_apply]
  generalize rx m c = x0 at h0 ⊢
  generalize rsc m c = x1 at h1 ⊢
  unfold logits ReferenceIdeal.Val.logits
  simp only [← h0, ← h1]
  pointwise [k0_pay5]
  rfl

theorem probs_match (t : Fin 2048) (e : Fin 8) :
    k0_pay6 (F := Ideal) (rx m c) (rsc m c) (rw_ m c) (ix2 t e) = ReferenceIdeal.Val.probs (logits (rx m c) (rsc m c) (rw_ m c) t) e := by
  unfold ReferenceIdeal.Val.probs logits
  pointwise [k0_pay6]

end Cert.KernelIdeal.Val
end
end
-- ==== Proof.Value.Result.lean ====
module

public import proofs.«01_k».proof.Proof.Value.Arrays

/-! # The kernel's result is the reference's -/

@[expose] public section
set_option maxRecDepth 16384

noncomputable section
namespace Cert.KernelIdeal.Val

open Cert.KernelIdeal Cert.KernelIdeal.Gen Cert.KernelIdeal.Run Cert.Words Cert.Routing Cert.Spec
open Idealize.ShloMosaic Idealize.ShloMosaic.TcCoe

variable (m : (ℓ : Loc nD τ sig) → Buf (Elt Ideal) ℓ) (c : Dev nD) {q : Choice} (hq : Top q (logits (rx m c) (rsc m c) (rw_ m c)))

/-- The network, the weight and the scale multiply in any order. -/
theorem share_eq (cw : Vec Ideal S2048x1 .f32) (t : Fin 2048) (d : Fin 768) (e : Fin 8)
    (h : cw (ix2 t 0) = Ideal.div (k0_pay6 (F := Ideal) (rx m c) (rsc m c) (rw_ m c) (ix2 t e))
      (factor (fun e => k0_pay6 (F := Ideal) (rx m c) (rsc m c) (rw_ m c) (ix2 t e)) (q.bit t)) * rps m c (ix2 0 e)) :
    share (W3 m) c cw t d e = ReferenceIdeal.Val.part q (A0 m c) (A1 m c) (A2 m c) (A3 m c) (A4 m c) (A5 m c) t d e := by
  have hp := probs_match m c t
  have hs := rps_apply m c e
  have hl := congrFun (logits_match m c) t
  have hx := x_apply m c t
  have h0 := w0_apply m c e
  have h1 := w1_apply m c e
  have h2 := wl_apply m c e
  unfold share ReferenceIdeal.Val.part
  simp only [hx, h0, h1, h2]
  rw [h]
  simp only [hp]
  rw [hl, hs, mul_assoc, mul_comm (A2 m c _)]

include hq in
theorem result_apply (Y₀ : Vec Ideal S2048x768 .f32) (g : Fin 1) (t : Fin 2048) (d : Fin 768) :
    (W5 m c (Gmm.traj (adm m 1) (W3 m) c Y₀ 16) main_v13 : Vec Ideal S1x2048x768 .f32) (ix3 g t d)
      = ReferenceIdeal.Read.val_main_v76 (F := Ideal) (A0 m c) (A1 m c) (A2 m c) (A3 m c) (A4 m c) (A5 m c) (ix3 g t d) := by
  have hw : ∀ n : Fin 32, ((adm m 1).1 0 : Vec Ideal S32 .i32) (Idealize.ShloMosaic.ix1 n) = BitVec.ofNat 32 (q.owner (512 * n.val)) := fun n => by
    have e : ((adm m 1).1 0 : Vec Ideal S32 .i32) = W3 m c main_v11 := by rw [eq_core c]; rfl
    have ho := owner_apply hq n
    rw [e, W3_be]
    generalize k0_pay4 (F := Ideal) (Router.ends (rx m c) (rsc m c) (rw_ m c)) = v at ho ⊢
    pointwise []
    exact ho
  have h1 : ∀ t : Fin 2048, (W3 m c main_v3_2 : Vec Ideal S2048x1 .i32) (ix2 t 0) = BitVec.ofNat 32 (pa q t) := fun t => by
    rw [W3_r1, W2_r1]
    exact place1_apply (rps m c) hq t
  have h2 : ∀ t : Fin 2048, (W3 m c main_v3_3 : Vec Ideal S2048x1 .i32) (ix2 t 0) = BitVec.ofNat 32 (pb q t) := fun t => by
    rw [W3_r2, W2_r2]
    exact place2_apply (rps m c) hq t
  have c1 := share_eq m c (q := q) (W3 m c main_v3_0) t d (q.fst t) (by rw [W3_cw1, W2_cw1]; exact weight1_apply (rps m c) hq t)
  have c2 := share_eq m c (q := q) (W3 m c main_v3_1) t d (q.snd t) (by rw [W3_cw2, W2_cw2]; exact weight2_apply (rps m c) hq t)
  rw [logits_match] at hq
  refine (out_apply m c _ g t d).trans ((traj_end (adm m 1) (W3 m) c q hw h1 h2 Y₀ t d).trans ?_)
  rw [c1, c2]
  exact (ReferenceIdeal.Val.result_eq (A2 m c) (A4 m c) (A5 m c) hq g t d).symm

/-- Under the precondition the kernel's result array is the reference's, as a whole. -/
theorem result_eq [Cert.Pre_choices_untied.Facts]
    (h : Cert.Pre_choices_untied.fn (F := Ideal) (A0 m c) (A1 m c) (A2 m c) (A3 m c) (A4 m c) (A5 m c) = fun _ => 1#1) (Y₀ : Vec Ideal S2048x768 .f32) :
    (W5 m c (Gmm.traj (adm m 1) (W3 m) c Y₀ 16) main_v13 : Vec Ideal S1x2048x768 .f32)
      = ReferenceIdeal.Read.val_main_v76 (F := Ideal) (A0 m c) (A1 m c) (A2 m c) (A3 m c) (A4 m c) (A5 m c) := by
  obtain ⟨q, hq⟩ := ReferenceIdeal.Val.exists_choice (A2 m c) (A4 m c) (A5 m c) h
  rw [← logits_match] at hq
  funext j
  rw [show j = ix3 (j 0) (j 1) (j 2) from by funext x; match x with | 0 => rfl | 1 => rfl | 2 => rfl]
  exact result_apply m c hq Y₀ (j 0) (j 1) (j 2)

end Cert.KernelIdeal.Val
end
end
-- ==== Proof.lean ====
/- The proof of the claim: every program leaves its arguments as launched and its counters at zero, and on extended reals the
   kernel's result is the reference's. -/
module

public import proofs.«01_k».proof.Defs
public import proofs.«01_k».proof.Proof.Kernel.Frame
public import proofs.«01_k».proof.Proof.KernelIdeal.Frame
public import proofs.«01_k».proof.Proof.Value.Result
public import Idealize.ShloMosaic.Lib.StableHlo.RunHlo
public import Idealize.ShloMosaic.Lib.Quiescent

@[expose] public section

set_option maxRecDepth 16384

noncomputable section

namespace Cert.Proof

open Idealize.ShloMosaic Idealize.ShloMosaic.TcCoe Idealize.ShloMosaic.Tactic Idealize.SL.Sem

/-- The reference's frame. -/
theorem frame_reference : Cert.quiescent_ReferenceIdeal := by
  intro m g _
  exact (θ_run _ _ _).mono (fun r h => ⟨fun c => (h c).2, sem_eq_zero_of_no_sems rfl r.2⟩) (ReferenceIdeal.Value.run m g)

/-- On extended reals the kernel's result is the reference's. -/
theorem algebraic : Cert.algebraic_KernelIdeal_ReferenceIdeal_pre_choices_untied := by
  intro m g m' g' hpre hagree
  refine ⟨fun c => ReferenceIdeal.Read.val_main_v76 (F := Ideal) (KernelIdeal.Val.A0 m c) (KernelIdeal.Val.A1 m c) (KernelIdeal.Val.A2 m c)
    (KernelIdeal.Val.A3 m c) (KernelIdeal.Val.A4 m c) (KernelIdeal.Val.A5 m c), ?_, ?_⟩
  · refine (θ_run _ _ _).mono (fun r h c => ?_) (θ_run_and (KernelIdeal.Run.run_all m g) (KernelIdeal.Run.frame m g))
    obtain ⟨Y₀, hb⟩ := h.1.1 c
    exact ⟨(hb (Proc.devRef .tc KernelIdeal.main_v13) (Pipeline.devRef_mem_ucRefs rfl)).trans (KernelIdeal.Val.result_eq m c (hpre c) Y₀), h.2.1 c⟩
  · refine (θ_run _ _ _).mono (fun r h c => ⟨(h c).1.trans ?_, (h c).2⟩) (ReferenceIdeal.Value.run m' g')
    obtain ⟨h0, h1, h2, h3, h4, h5⟩ := hagree c
    rw [ReferenceIdeal.Read.val_main_v76_eq, h0, h1, h2, h3, h4, h5]

theorem claim : Cert.Claim := ⟨inferInstance, inferInstance, inferInstance, inferInstance,
  fun m g _ => Cert.Kernel.Run.frame m g, fun m g _ => Cert.KernelIdeal.Run.frame m g, fun m g _ => Cert.KernelIdeal.Run.frame m g,
  frame_reference, fun m g _ => frame_reference m g trivial, trivial, algebraic⟩

end Cert.Proof

end
